-- ==== Defs.lean ====
def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.2.2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.2.2.2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.2.2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.2.2.2.2.2.2.2.2.2 = (fun _ => 1#1)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v50) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_v52) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)) (v4 : (c : Dev Cert.Kernel4Ideal.nD) → Buf (Elt Ideal) ((c.tc : Thread Cert.Kernel4Ideal.nD Cert.Kernel4Ideal.τ).loc Cert.Kernel4Ideal.main_v2_4)) (v5 : (c : Dev Cert.Kernel4Ideal.nD) → Buf (Elt Ideal) ((c.tc : Thread Cert.Kernel4Ideal.nD Cert.Kernel4Ideal.τ).loc Cert.Kernel4Ideal.main_v2_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_v2_4) = v4 c
          ∧ r.2.mem ((c.tc : Thread Cert.Kernel4Ideal.nD Cert.Kernel4Ideal.τ).loc Cert.Kernel4Ideal.main_v2_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_v19) = v2 c
          ∧ r.2.mem ((c.tc : Thread Cert.Reference4Ideal.nD Cert.Reference4Ideal.τ).loc Cert.Reference4Ideal.main_v20) = v3 c
          ∧ r.2.mem ((c.tc : Thread Cert.Reference4Ideal.nD Cert.Reference4Ideal.τ).loc Cert.Reference4Ideal.main_v21) = v4 c
          ∧ r.2.mem ((c.tc : Thread Cert.Reference4Ideal.nD Cert.Reference4Ideal.τ).loc Cert.Reference4Ideal.main_v18) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v4_1)) (v1 : (c : Dev Cert.Kernel5Ideal.nD) → Buf (Elt Ideal) ((c.tc : Thread Cert.Kernel5Ideal.nD Cert.Kernel5Ideal.τ).loc Cert.Kernel5Ideal.main_v4_3)) (v2 : (c : Dev Cert.Kernel5Ideal.nD) → Buf (Elt Ideal) ((c.tc : Thread Cert.Kernel5Ideal.nD Cert.Kernel5Ideal.τ).loc Cert.Kernel5Ideal.main_v4_4)) (v3 : (c : Dev Cert.Kernel5Ideal.nD) → Buf (Elt Ideal) ((c.tc : Thread Cert.Kernel5Ideal.nD Cert.Kernel5Ideal.τ).loc Cert.Kernel5Ideal.main_v4_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_1) = v0 c
          ∧ r.2.mem ((c.tc : Thread Cert.Kernel5Ideal.nD Cert.Kernel5Ideal.τ).loc Cert.Kernel5Ideal.main_v4_3) = v1 c
          ∧ r.2.mem ((c.tc : Thread Cert.Kernel5Ideal.nD Cert.Kernel5Ideal.τ).loc Cert.Kernel5Ideal.main_v4_4) = v2 c
          ∧ r.2.mem ((c.tc : Thread Cert.Kernel5Ideal.nD Cert.Kernel5Ideal.τ).loc Cert.Kernel5Ideal.main_v4_5) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v78) = v0 c
          ∧ r.2.mem ((c.tc : Thread Cert.Reference5Ideal.nD Cert.Reference5Ideal.τ).loc Cert.Reference5Ideal.main_v103) = v1 c
          ∧ r.2.mem ((c.tc : Thread Cert.Reference5Ideal.nD Cert.Reference5Ideal.τ).loc Cert.Reference5Ideal.main_v99) = v2 c
          ∧ r.2.mem ((c.tc : Thread Cert.Reference5Ideal.nD Cert.Reference5Ideal.τ).loc Cert.Reference5Ideal.main_v104) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def Claim : Prop :=
  ∃ (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite3 : Cert.Pre_finite3.Facts) (hPre_finite5 : Cert.Pre_finite5.Facts),
    quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite3.lean ====
abbrev S4096x1024 : Shape := ⟨2, ![4096, 1024]⟩
abbrev S4096x512 : Shape := ⟨2, ![4096, 512]⟩
abbrev S4096x128 : Shape := ⟨2, ![4096, 128]⟩
abbrev S1x1024 : Shape := ⟨2, ![1, 1024]⟩
abbrev S1024x2304 : Shape := ⟨2, ![1024, 2304]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bitsLt_bf16_f32 : FTy.bits .bf16 < FTy.bits .f32
  bcast_S_S4096x128 : S_.BroadcastsInDim S4096x128 (![] : Fin 0 → Fin S4096x128.rank)
  bcast_S_S1x1024 : S_.BroadcastsInDim S1x1024 (![] : Fin 0 → Fin S1x1024.rank)
  bcast_S_S1024x2304 : S_.BroadcastsInDim S1024x2304 (![] : Fin 0 → Fin S1024x2304.rank)

variable [Facts]

def fn_part1 {F : FTy → Type} [FloatOps F] (main_arg7 : FVec F S4096x512 .bf16) (main_arg8 : FVec F S1x1024 .f32) (main_arg9 : FVec F S1024x2304 .f32) (main_v2 : IVec S4096x1024 1) (main_v5 : IVec S4096x512 1) (main_v9 : IVec S4096x512 1) (main_v12 : IVec S4096x512 1) (main_v15 : IVec S4096x128 1) (main_v16 : FVec F S4096x128 .f32) (main_v17 : FVec F S4096x128 .f32) : IVec S4096x1024 1 × IVec S4096x512 1 × IVec S4096x512 1 × IVec S4096x512 1 × IVec S4096x128 1 × IVec S4096x128 1 × IVec S4096x512 1 × IVec S1x1024 1 × IVec S1024x2304 1 :=
  let main_v18 : IVec S4096x128 1 := cmpf .olt main_v16 main_v17
  let main_v19 : FVec F S4096x512 .f32 := (extf .f32 · bitsLt_bf16_f32) main_arg7
  let main_v20 : FVec F S4096x512 .f32 := Host.absf main_v19
  let main_cst_5 : FVec F S_ .f32 := constant S_ .f32 0x7F800000#32
  let main_v21 : FVec F S4096x512 .f32 := broadcastInDim S4096x512 ![] bcast_S_S4096x512 main_cst_5
  let main_v22 : IVec S4096x512 1 := cmpf .olt main_v20 main_v21
  let main_v23 : FVec F S1x1024 .f32 := Host.absf main_arg8
  let main_cst_6 : FVec F S_ .f32 := constant S_ .f32 0x7F800000#32
  let main_v24 : FVec F S1x1024 .f32 := broadcastInDim S1x1024 ![] bcast_S_S1x1024 main_cst_6
  let main_v25 : IVec S1x1024 1 := cmpf .olt main_v23 main_v24
  let main_v26 : FVec F S1024x2304 .f32 := Host.absf main_arg9
  let main_cst_7 : FVec F S_ .f32 := constant S_ .f32 0x7F800000#32
  let main_v27 : FVec F S1024x2304 .f32 := broadcastInDim S1024x2304 ![] bcast_S_S1024x2304 main_cst_7
  let main_v28 : IVec S1024x2304 1 := cmpf .olt main_v26 main_v27
  (main_v2, main_v5, main_v9, main_v12, main_v15, main_v18, main_v22, main_v25, main_v28)

def fn {F : FTy → Type} [FloatOps F] (main_arg0 : FVec F S4096x1024 .f32) (main_arg1 : FVec F S4096x1024 .f32) (main_arg2 : FVec F S4096x512 .f32) (main_arg3 : FVec F S4096x512 .bf16) (main_arg4 : FVec F S4096x512 .f32) (main_arg5 : FVec F S4096x128 .f32) (main_arg6 : FVec F S4096x128 .f32) (main_arg7 : FVec F S4096x512 .bf16) (main_arg8 : FVec F S1x1024 .f32) (main_arg9 : FVec F S1024x2304 .f32) : IVec S4096x1024 1 × IVec S4096x512 1 × IVec S4096x512 1 × IVec S4096x512 1 × IVec S4096x128 1 × IVec S4096x128 1 × IVec S4096x512 1 × IVec S1x1024 1 × IVec S1024x2304 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x512 .f32 := Host.absf main_arg2
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := (extf .f32 · bitsLt_bf16_f32) main_arg3
  let main_v7 : FVec F S4096x512 .f32 := Host.absf main_v6
  let main_cst_1 : FVec F S_ .f32 := constant S_ .f32 0x7F800000#32
  let main_v8 : FVec F S4096x512 .f32 := broadcastInDim S4096x512 ![] bcast_S_S4096x512 main_cst_1
  let main_v9 : IVec S4096x512 1 := cmpf .olt main_v7 main_v8
  let main_v10 : FVec F S4096x512 .f32 := Host.absf main_arg4
  let main_cst_2 : FVec F S_ .f32 := constant S_ .f32 0x7F800000#32
  let main_v11 : FVec F S4096x512 .f32 := broadcastInDim S4096x512 ![] bcast_S_S4096x512 main_cst_2
  let main_v12 : IVec S4096x512 1 := cmpf .olt main_v10 main_v11
  let main_v13 : FVec F S4096x128 .f32 := Host.absf main_arg5
  let main_cst_3 : FVec F S_ .f32 := constant S_ .f32 0x7F800000#32
  let main_v14 : FVec F S4096x128 .f32 := broadcastInDim S4096x128 ![] bcast_S_S4096x128 main_cst_3
  let main_v15 : IVec S4096x128 1 := cmpf .olt main_v13 main_v14
  let main_v16 : FVec F S4096x128 .f32 := Host.absf main_arg6
  let main_cst_4 : FVec F S_ .f32 := constant S_ .f32 0x7F800000#32
  let main_v17 : FVec F S4096x128 .f32 := broadcastInDim S4096x128 ![] bcast_S_S4096x128 main_cst_4
  fn_part1 (F := F) main_arg7 main_arg8 main_arg9 main_v2 main_v5 main_v9 main_v12 main_v15 main_v16 main_v17
-- ==== Pre_finite5.lean ====
abbrev S4096x1024 : Shape := ⟨2, ![4096, 1024]⟩
abbrev S4096x512 : Shape := ⟨2, ![4096, 512]⟩
abbrev S4096x256 : Shape := ⟨2, ![4096, 256]⟩
abbrev S512x512 : Shape := ⟨2, ![512, 512]⟩
abbrev S1x512 : Shape := ⟨2, ![1, 512]⟩
abbrev S1024x1024 : Shape := ⟨2, ![1024, 1024]⟩
abbrev S1x1024 : Shape := ⟨2, ![1, 1024]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bcast_S_S4096x256 : S_.BroadcastsInDim S4096x256 (![] : Fin 0 → Fin S4096x256.rank)
  bcast_S_S512x512 : S_.BroadcastsInDim S512x512 (![] : Fin 0 → Fin S512x512.rank)
  bcast_S_S1x512 : S_.BroadcastsInDim S1x512 (![] : Fin 0 → Fin S1x512.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S256x1024 : S_.BroadcastsInDim S256x1024 (![] : Fin 0 → Fin S256x1024.rank)

variable [Facts]

def fn_part2 {F : FTy → Type} [FloatOps F] (main_arg12 : FVec F S1x1024 .f32) (main_arg13 : FVec F S256x1024 .f32) (main_v2 : IVec S4096x1024 1) (main_v5 : IVec S4096x512 1) (main_v8 : IVec S4096x512 1) (main_v11 : IVec S4096x512 1) (main_v14 : IVec S4096x512 1) (main_v17 : IVec S4096x256 1) (main_v20 : IVec S4096x1024 1) (main_v23 : IVec S512x512 1) (main_v26 : IVec S1x512 1) (main_v29 : IVec S1024x1024 1) (main_v32 : IVec S1x1024 1) (main_v35 : IVec S1024x1024 1) : IVec S4096x1024 1 × IVec S4096x512 1 × IVec S4096x512 1 × IVec S4096x512 1 × IVec S4096x512 1 × IVec S4096x256 1 × IVec S4096x1024 1 × IVec S512x512 1 × IVec S1x512 1 × IVec S1024x1024 1 × IVec S1x1024 1 × IVec S1024x1024 1 × IVec S1x1024 1 × IVec S256x1024 1 :=
  let main_v36 : FVec F S1x1024 .f32 := Host.absf main_arg12
  let main_cst_11 : FVec F S_ .f32 := constant S_ .f32 0x7F800000#32
  let main_v37 : FVec F S1x1024 .f32 := broadcastInDim S1x1024 ![] bcast_S_S1x1024 main_cst_11
  let main_v38 : IVec S1x1024 1 := cmpf .olt main_v36 main_v37
  let main_v39 : FVec F S256x1024 .f32 := Host.absf main_arg13
  let main_cst_12 : FVec F S_ .f32 := constant S_ .f32 0x7F800000#32
  let main_v40 : FVec F S256x1024 .f32 := broadcastInDim S256x1024 ![] bcast_S_S256x1024 main_cst_12
  let main_v41 : IVec S256x1024 1 := cmpf .olt main_v39 main_v40
  (main_v2, main_v5, main_v8, main_v11, main_v14, main_v17, main_v20, main_v23, main_v26, main_v29, main_v32, main_v35, main_v38, main_v41)

def fn_part1 {F : FTy → Type} [FloatOps F] (main_arg6 : FVec F S4096x1024 .f32) (main_arg7 : FVec F S512x512 .f32) (main_arg8 : FVec F S1x512 .f32) (main_arg9 : FVec F S1024x1024 .f32) (main_arg10 : FVec F S1x1024 .f32) (main_arg11 : FVec F S1024x1024 .f32) (main_arg12 : FVec F S1x1024 .f32) (main_arg13 : FVec F S256x1024 .f32) (main_v2 : IVec S4096x1024 1) (main_v5 : IVec S4096x512 1) (main_v8 : IVec S4096x512 1) (main_v11 : IVec S4096x512 1) (main_v14 : IVec S4096x512 1) (main_v17 : IVec S4096x256 1) : IVec S4096x1024 1 × IVec S4096x512 1 × IVec S4096x512 1 × IVec S4096x512 1 × IVec S4096x512 1 × IVec S4096x256 1 × IVec S4096x1024 1 × IVec S512x512 1 × IVec S1x512 1 × IVec S1024x1024 1 × IVec S1x1024 1 × IVec S1024x1024 1 × IVec S1x1024 1 × IVec S256x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  let main_v21 : FVec F S512x512 .f32 := Host.absf main_arg7
  let main_cst_6 : FVec F S_ .f32 := constant S_ .f32 0x7F800000#32
  let main_v22 : FVec F S512x512 .f32 := broadcastInDim S512x512 ![] bcast_S_S512x512 main_cst_6
  let main_v23 : IVec S512x512 1 := cmpf .olt main_v21 main_v22
  let main_v24 : FVec F S1x512 .f32 := Host.absf main_arg8
  let main_cst_7 : FVec F S_ .f32 := constant S_ .f32 0x7F800000#32
  let main_v25 : FVec F S1x512 .f32 := broadcastInDim S1x512 ![] bcast_S_S1x512 main_cst_7
  let main_v26 : IVec S1x512 1 := cmpf .olt main_v24 main_v25
  let main_v27 : FVec F S1024x1024 .f32 := Host.absf main_arg9
  let main_cst_8 : FVec F S_ .f32 := constant S_ .f32 0x7F800000#32
  let main_v28 : FVec F S1024x1024 .f32 := broadcastInDim S1024x1024 ![] bcast_S_S1024x1024 main_cst_8
  let main_v29 : IVec S1024x1024 1 := cmpf .olt main_v27 main_v28
  let main_v30 : FVec F S1x1024 .f32 := Host.absf main_arg10
  let main_cst_9 : FVec F S_ .f32 := constant S_ .f32 0x7F800000#32
  let main_v31 : FVec F S1x1024 .f32 := broadcastInDim S1x1024 ![] bcast_S_S1x1024 main_cst_9
  let main_v32 : IVec S1x1024 1 := cmpf .olt main_v30 main_v31
  let main_v33 : FVec F S1024x1024 .f32 := Host.absf main_arg11
  let main_cst_10 : FVec F S_ .f32 := constant S_ .f32 0x7F800000#32
  let main_v34 : FVec F S1024x1024 .f32 := broadcastInDim S1024x1024 ![] bcast_S_S1024x1024 main_cst_10
  let main_v35 : IVec S1024x1024 1 := cmpf .olt main_v33 main_v34
  fn_part2 (F := F) main_arg12 main_arg13 main_v2 main_v5 main_v8 main_v11 main_v14 main_v17 main_v20 main_v23 main_v26 main_v29 main_v32 main_v35

def fn {F : FTy → Type} [FloatOps F] (main_arg0 : FVec F S4096x1024 .f32) (main_arg1 : FVec F S4096x512 .f32) (main_arg2 : FVec F S4096x512 .f32) (main_arg3 : FVec F S4096x512 .f32) (main_arg4 : FVec F S4096x512 .f32) (main_arg5 : FVec F S4096x256 .f32) (main_arg6 : FVec F S4096x1024 .f32) (main_arg7 : FVec F S512x512 .f32) (main_arg8 : FVec F S1x512 .f32) (main_arg9 : FVec F S1024x1024 .f32) (main_arg10 : FVec F S1x1024 .f32) (main_arg11 : FVec F S1024x1024 .f32) (main_arg12 : FVec F S1x1024 .f32) (main_arg13 : FVec F S256x1024 .f32) : IVec S4096x1024 1 × IVec S4096x512 1 × IVec S4096x512 1 × IVec S4096x512 1 × IVec S4096x512 1 × IVec S4096x256 1 × IVec S4096x1024 1 × IVec S512x512 1 × IVec S1x512 1 × IVec S1024x1024 1 × IVec S1x1024 1 × IVec S1024x1024 1 × IVec S1x1024 1 × IVec S256x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  let main_v15 : FVec F S4096x256 .f32 := Host.absf main_arg5
  let main_cst_4 : FVec F S_ .f32 := constant S_ .f32 0x7F800000#32
  let main_v16 : FVec F S4096x256 .f32 := broadcastInDim S4096x256 ![] bcast_S_S4096x256 main_cst_4
  let main_v17 : IVec S4096x256 1 := cmpf .olt main_v15 main_v16
  fn_part1 (F := F) main_arg6 main_arg7 main_arg8 main_arg9 main_arg10 main_arg11 main_arg12 main_arg13 main_v2 main_v5 main_v8 main_v11 main_v14 main_v17
-- ==== Kernel3.lean ====
abbrev S4096x1024 : Shape := ⟨2, ![4096, 1024]⟩
abbrev S4096x512 : Shape := ⟨2, ![4096, 512]⟩
abbrev S4096x128 : Shape := ⟨2, ![4096, 128]⟩
abbrev S1x1024 : Shape := ⟨2, ![1, 1024]⟩
abbrev S1024x2304 : Shape := ⟨2, ![1024, 2304]⟩
abbrev S2304x1024 : Shape := ⟨2, ![2304, 1024]⟩
abbrev S1x288x1024 : Shape := ⟨3, ![1, 288, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x2304 : Shape := ⟨2, ![512, 2304]⟩
abbrev S1024 : Shape := ⟨1, ![1024]⟩
abbrev S64x1024 : Shape := ⟨2, ![64, 1024]⟩
abbrev S288x1024 : Shape := ⟨2, ![288, 1024]⟩

abbrev nBuf : Space → Nat
  | .hbm => 16
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x512, .bf16⟩
  | .hbm, ⟨4, _⟩ => ⟨S4096x512, .f32⟩
  | .hbm, ⟨5, _⟩ => ⟨S4096x128, .f32⟩
  | .hbm, ⟨6, _⟩ => ⟨S4096x128, .f32⟩
  | .hbm, ⟨7, _⟩ => ⟨S4096x512, .bf16⟩
  | .hbm, ⟨8, _⟩ => ⟨S1x1024, .f32⟩
  | .hbm, ⟨9, _⟩ => ⟨S1024x2304, .f32⟩
  | .hbm, ⟨10, _⟩ => ⟨S1024x2304, .bf16⟩
  | .hbm, ⟨11, _⟩ => ⟨S2304x1024, .bf16⟩
  | .hbm, ⟨12, _⟩ => ⟨S4096x1024, .f32⟩
  | .hbm, ⟨13, _⟩ => ⟨S1x288x1024, .f32⟩
  | .hbm, ⟨14, _⟩ => ⟨S1x1024, .f32⟩
  | .hbm, ⟨15, _⟩ => ⟨S2304x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x512, .bf16⟩
  | .local _ .vmem, ⟨15, _⟩ => ⟨S512x512, .bf16⟩
  | .local _ .vmem, ⟨16, _⟩ => ⟨S1x1024, .f32⟩
  | .local _ .vmem, ⟨17, _⟩ => ⟨S2304x1024, .bf16⟩
  | .local _ .vmem, ⟨18, _⟩ => ⟨S512x1024, .f32⟩
  | .local _ .vmem, ⟨19, _⟩ => ⟨S512x1024, .f32⟩
  | .local _ .vmem, ⟨20, _⟩ => ⟨S1x288x1024, .f32⟩
  | .local _ .vmem, ⟨21, _⟩ => ⟨S1x1024, .f32⟩
  | .local _ .vmem, ⟨22, _⟩ => ⟨S2304x1024, .bf16⟩
  | .local _ .vmem, ⟨23, _⟩ => ⟨S2304x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v60 : BitVec 1 := Scalar.cmpi .eq arg0 c7_i32
  let v61 : BitVec 32 := Scalar.extui v60
  let c0_i32_37 : BitVec 32 := 0#32
  let v62 : BitVec 1 := Scalar.cmpi .ne v61 c0_i32_37
  v62

@[reducible] def k0_t1_loop : Scf.Loop 32 :=
  let c0_i32_38 : BitVec 32 := 0#32
  let c36_i32 : BitVec 32 := 36#32
  let v63 : BitVec 32 := Scalar.addi c0_i32_38 c36_i32
  let c1_i32 : BitVec 32 := 1#32
  ⟨c0_i32_38, v63, c1_i32⟩
def k0_mult1 (k0_t1 : Fin k0_t1_loop.trips) : BitVec 32 :=
  let c0_i32_38 : BitVec 32 := 0#32
  let c1_i32 : BitVec 32 := 1#32
  let arg16 : BitVec 32 := Scf.iv c0_i32_38 c1_i32 k0_t1
  let c64_i32 : BitVec 32 := 64#32
  let v70 : BitVec 32 := Scalar.muli arg16 c64_i32
  v70
def k0_off1 (k0_t1 : Fin k0_t1_loop.trips) : Fin 2 → Nat :=
  let c0_i32_38 : BitVec 32 := 0#32
  let c1_i32 : BitVec 32 := 1#32
  let arg16 : BitVec 32 := Scf.iv c0_i32_38 c1_i32 k0_t1
  let c64_i32 : BitVec 32 := 64#32
  let v70 : BitVec 32 := Scalar.muli arg16 c64_i32
  let v71 : BitVec 32 := v70
  let v72 : Index := Scalar.indexCast v71
  let c0_45 : Index := 0#32
  ![v72.toNat, 0]
def k0_mult2 : BitVec 32 :=
  let c0_i32_40 : BitVec 32 := 0#32
  c0_i32_40
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2304x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x288x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2304x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S4096x1024 : Shape := ⟨2, ![4096, 1024]⟩
abbrev S4096x512 : Shape := ⟨2, ![4096, 512]⟩
abbrev S4096x128 : Shape := ⟨2, ![4096, 128]⟩
abbrev S1x1024 : Shape := ⟨2, ![1, 1024]⟩
abbrev S1024x2304 : Shape := ⟨2, ![1024, 2304]⟩
abbrev S_ : Shape := ⟨0, ![]⟩
abbrev S4096 : Shape := ⟨1, ![4096]⟩
abbrev S4096x1 : Shape := ⟨2, ![4096, 1]⟩
abbrev S4096x2304 : Shape := ⟨2, ![4096, 2304]⟩
abbrev S2304x1024 : Shape := ⟨2, ![2304, 1024]⟩
abbrev S1024 : Shape := ⟨1, ![1024]⟩
abbrev S8x288x1024 : Shape := ⟨3, ![8, 288, 1024]⟩
abbrev S1x288x1024 : Shape := ⟨3, ![1, 288, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x512, .bf16⟩
  | .hbm, ⟨4, _⟩ => ⟨S4096x512, .f32⟩
  | .hbm, ⟨5, _⟩ => ⟨S4096x128, .f32⟩
  | .hbm, ⟨6, _⟩ => ⟨S4096x128, .f32⟩
  | .hbm, ⟨7, _⟩ => ⟨S4096x512, .bf16⟩
  | .hbm, ⟨8, _⟩ => ⟨S1x1024, .f32⟩
  | .hbm, ⟨9, _⟩ => ⟨S1024x2304, .f32⟩
  | .hbm, ⟨10, _⟩ => ⟨S4096x512, .f32⟩
  | .hbm, ⟨11, _⟩ => ⟨S4096x512, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x2304, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x128, .f32⟩
  | .hbm, ⟨36, _⟩ => ⟨S4096x128, .f32⟩
  | .hbm, ⟨37, _⟩ => ⟨S4096x512, .f32⟩
  | .hbm, ⟨38, _⟩ => ⟨S4096x2304, .f32⟩
  | .hbm, ⟨39, _⟩ => ⟨S2304x1024, .f32⟩
  | .hbm, ⟨40, _⟩ => ⟨S1024x2304, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S2304x1024, .f32⟩
  | .hbm, ⟨67, _⟩ => ⟨S8x288x1024, .f32⟩
  | .hbm, ⟨68, _⟩ => ⟨S1x288x1024, .f32⟩
  | .hbm, ⟨69, _⟩ => ⟨S2304x1024, .f32⟩
  | .hbm, ⟨70, _⟩ => ⟨S2304x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x2304 : Shape := ⟨2, ![1024, 2304]⟩
abbrev S2304x1024 : Shape := ⟨2, ![2304, 1024]⟩
abbrev S4096x512 : Shape := ⟨2, ![4096, 512]⟩
abbrev S4096x128 : Shape := ⟨2, ![4096, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x2304 : Shape := ⟨2, ![512, 2304]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2304, .f32⟩
  | .hbm, ⟨3, _⟩ => ⟨S1024x2304, .bf16⟩
  | .hbm, ⟨4, _⟩ => ⟨S2304x1024, .bf16⟩
  | .hbm, ⟨5, _⟩ => ⟨S4096x512, .f32⟩
  | .hbm, ⟨6, _⟩ => ⟨S4096x512, .f32⟩
  | .hbm, ⟨7, _⟩ => ⟨S4096x512, .bf16⟩
  | .hbm, ⟨8, _⟩ => ⟨S4096x128, .bf16⟩
  | .hbm, ⟨9, _⟩ => ⟨S4096x128, .bf16⟩
  | .hbm, ⟨10, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2304x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x512, .f32⟩
  | .local _ .vmem, ⟨15, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S4096x1024 : Shape := ⟨2, ![4096, 1024]⟩
abbrev S1x1024 : Shape := ⟨2, ![1, 1024]⟩
abbrev S1024x2304 : Shape := ⟨2, ![1024, 2304]⟩
abbrev S_ : Shape := ⟨0, ![]⟩
abbrev S4096 : Shape := ⟨1, ![4096]⟩
abbrev S4096x1 : Shape := ⟨2, ![4096, 1]⟩
abbrev S4096x2304 : Shape := ⟨2, ![4096, 2304]⟩
abbrev S4096x512 : Shape := ⟨2, ![4096, 512]⟩
abbrev S4096x128 : Shape := ⟨2, ![4096, 128]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2304, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x2304, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x128, .f32⟩
  | .hbm, ⟨23, _⟩ => ⟨S4096x128, .f32⟩
  | .hbm, ⟨24, _⟩ => ⟨S4096x512, .f32⟩
  | .hbm, ⟨25, _⟩ => ⟨S4096x512, .bf16⟩
  | .hbm, ⟨26, _⟩ => ⟨S4096x128, .bf16⟩
  | .hbm, ⟨27, _⟩ => ⟨S4096x128, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel5.lean ====
abbrev S4096x1024 : Shape := ⟨2, ![4096, 1024]⟩
abbrev S4096x512 : Shape := ⟨2, ![4096, 512]⟩
abbrev S4096x256 : Shape := ⟨2, ![4096, 256]⟩
abbrev S512x512 : Shape := ⟨2, ![512, 512]⟩
abbrev S1x512 : Shape := ⟨2, ![1, 512]⟩
abbrev S1024x1024 : Shape := ⟨2, ![1024, 1024]⟩
abbrev S1x1024 : Shape := ⟨2, ![1, 1024]⟩
abbrev S256x1024 : Shape := ⟨2, ![256, 1024]⟩
abbrev S1x1 : Shape := ⟨2, ![1, 1]⟩
abbrev S1x64x512 : Shape := ⟨3, ![1, 64, 512]⟩
abbrev S1x128x1024 : Shape := ⟨3, ![1, 128, 1024]⟩
abbrev S1x256x128 : Shape := ⟨3, ![1, 256, 128]⟩
abbrev S8x256x128 : Shape := ⟨3, ![8, 256, 128]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S1 : Shape := ⟨1, ![1]⟩
abbrev S512 : Shape := ⟨1, ![512]⟩
abbrev S1024 : Shape := ⟨1, ![1024]⟩
abbrev S64x1024 : Shape := ⟨2, ![64, 1024]⟩
abbrev S64x512 : Shape := ⟨2, ![64, 512]⟩
abbrev S128x1024 : Shape := ⟨2, ![128, 1024]⟩
abbrev S256x128 : Shape := ⟨2, ![256, 128]⟩

abbrev nBuf : Space → Nat
  | .hbm => 35
  | .vmem => 47
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x256, .f32⟩
  | .hbm, ⟨6, _⟩ => ⟨S4096x1024, .f32⟩
  | .hbm, ⟨7, _⟩ => ⟨S512x512, .f32⟩
  | .hbm, ⟨8, _⟩ => ⟨S1x512, .f32⟩
  | .hbm, ⟨9, _⟩ => ⟨S1024x1024, .f32⟩
  | .hbm, ⟨10, _⟩ => ⟨S1x1024, .f32⟩
  | .hbm, ⟨11, _⟩ => ⟨S1024x1024, .f32⟩
  | .hbm, ⟨12, _⟩ => ⟨S1x1024, .f32⟩
  | .hbm, ⟨13, _⟩ => ⟨S256x1024, .f32⟩
  | .hbm, ⟨14, _⟩ => ⟨S512x512, .bf16⟩
  | .hbm, ⟨15, _⟩ => ⟨S1024x1024, .bf16⟩
  | .hbm, ⟨16, _⟩ => ⟨S1024x1024, .bf16⟩
  | .hbm, ⟨17, _⟩ => ⟨S256x1024, .bf16⟩
  | .hbm, ⟨18, _⟩ => ⟨S1x1, .f32⟩
  | .hbm, ⟨19, _⟩ => ⟨S4096x1024, .f32⟩
  | .hbm, ⟨20, _⟩ => ⟨S4096x512, .f32⟩
  | .hbm, ⟨21, _⟩ => ⟨S4096x512, .bf16⟩
  | .hbm, ⟨22, _⟩ => ⟨S4096x512, .f32⟩
  | .hbm, ⟨23, _⟩ => ⟨S4096x512, .bf16⟩
  | .hbm, ⟨24, _⟩ => ⟨S1x64x512, .f32⟩
  | .hbm, ⟨25, _⟩ => ⟨S1x512, .f32⟩
  | .hbm, ⟨26, _⟩ => ⟨S1x128x1024, .f32⟩
  | .hbm, ⟨27, _⟩ => ⟨S1x1024, .f32⟩
  | .hbm, ⟨28, _⟩ => ⟨S1x128x1024, .f32⟩
  | .hbm, ⟨29, _⟩ => ⟨S1x1024, .f32⟩
  | .hbm, ⟨30, _⟩ => ⟨S1x256x128, .f32⟩
  | .hbm, ⟨31, _⟩ => ⟨S1024x1024, .bf16⟩
  | .hbm, ⟨32, _⟩ => ⟨S1024x1024, .bf16⟩
  | .hbm, ⟨33, _⟩ => ⟨S8x256x128, .bf16⟩
  | .hbm, ⟨34, _⟩ => ⟨S512x512, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x256, .f32⟩
  | .local _ .vmem, ⟨11, _⟩ => ⟨S256x256, .f32⟩
  | .local _ .vmem, ⟨12, _⟩ => ⟨S256x1024, .f32⟩
  | .local _ .vmem, ⟨13, _⟩ => ⟨S256x1024, .f32⟩
  | .local _ .vmem, ⟨14, _⟩ => ⟨S512x512, .bf16⟩
  | .local _ .vmem, ⟨15, _⟩ => ⟨S1x512, .f32⟩
  | .local _ .vmem, ⟨16, _⟩ => ⟨S1024x1024, .bf16⟩
  | .local _ .vmem, ⟨17, _⟩ => ⟨S1x1024, .f32⟩
  | .local _ .vmem, ⟨18, _⟩ => ⟨S1024x1024, .bf16⟩
  | .local _ .vmem, ⟨19, _⟩ => ⟨S1x1024, .f32⟩
  | .local _ .vmem, ⟨20, _⟩ => ⟨S256x1024, .bf16⟩
  | .local _ .vmem, ⟨21, _⟩ => ⟨S1x1, .f32⟩
  | .local _ .vmem, ⟨22, _⟩ => ⟨S256x1024, .f32⟩
  | .local _ .vmem, ⟨23, _⟩ => ⟨S256x1024, .f32⟩
  | .local _ .vmem, ⟨24, _⟩ => ⟨S256x512, .f32⟩
  | .local _ .vmem, ⟨25, _⟩ => ⟨S256x512, .f32⟩
  | .local _ .vmem, ⟨26, _⟩ => ⟨S256x512, .bf16⟩
  | .local _ .vmem, ⟨27, _⟩ => ⟨S256x512, .bf16⟩
  | .local _ .vmem, ⟨28, _⟩ => ⟨S256x512, .f32⟩
  | .local _ .vmem, ⟨29, _⟩ => ⟨S256x512, .f32⟩
  | .local _ .vmem, ⟨30, _⟩ => ⟨S256x512, .bf16⟩
  | .local _ .vmem, ⟨31, _⟩ => ⟨S256x512, .bf16⟩
  | .local _ .vmem, ⟨32, _⟩ => ⟨S1x64x512, .f32⟩
  | .local _ .vmem, ⟨33, _⟩ => ⟨S1x512, .f32⟩
  | .local _ .vmem, ⟨34, _⟩ => ⟨S1x128x1024, .f32⟩
  | .local _ .vmem, ⟨35, _⟩ => ⟨S1x1024, .f32⟩
  | .local _ .vmem, ⟨36, _⟩ => ⟨S1x128x1024, .f32⟩
  | .local _ .vmem, ⟨37, _⟩ => ⟨S1x1024, .f32⟩
  | .local _ .vmem, ⟨38, _⟩ => ⟨S1x256x128, .f32⟩
  | .local _ .vmem, ⟨39, _⟩ => ⟨S1024x1024, .bf16⟩
  | .local _ .vmem, ⟨40, _⟩ => ⟨S1024x1024, .bf16⟩
  | .local _ .vmem, ⟨41, _⟩ => ⟨S8x256x128, .bf16⟩
  | .local _ .vmem, ⟨42, _⟩ => ⟨S512x512, .bf16⟩
  | .local _ .vmem, ⟨43, _⟩ => ⟨S512x512, .f32⟩
  | .local _ .vmem, ⟨44, _⟩ => ⟨S1024x1024, .f32⟩
  | .local _ .vmem, ⟨45, _⟩ => ⟨S1024x1024, .f32⟩
  | .local _ .vmem, ⟨46, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev main_v4_3 : Ref sig .tc := ⟨.hbm, 21, rfl⟩
abbrev main_v4_4 : Ref sig .tc := ⟨.hbm, 22, rfl⟩
abbrev main_v4_5 : Ref sig .tc := ⟨.hbm, 23, rfl⟩
abbrev main_v4_6 : Ref sig .tc := ⟨.hbm, 24, rfl⟩
abbrev main_v4_7 : Ref sig .tc := ⟨.hbm, 25, rfl⟩
abbrev main_v4_8 : Ref sig .tc := ⟨.hbm, 26, rfl⟩
abbrev main_v4_9 : Ref sig .tc := ⟨.hbm, 27, rfl⟩
abbrev main_v4_10 : Ref sig .tc := ⟨.hbm, 28, rfl⟩
abbrev main_v4_11 : Ref sig .tc := ⟨.hbm, 29, rfl⟩
abbrev main_v4_12 : Ref sig .tc := ⟨.hbm, 30, rfl⟩
abbrev main_v4_13 : Ref sig .tc := ⟨.hbm, 31, rfl⟩
abbrev main_v4_14 : Ref sig .tc := ⟨.hbm, 32, rfl⟩
abbrev main_v4_15 : Ref sig .tc := ⟨.hbm, 33, rfl⟩
abbrev main_v4_16 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg24_0 : Ref sig .tc := ⟨.vmem, 36, rfl⟩
abbrev cc0_stg25_0 : Ref sig .tc := ⟨.vmem, 37, rfl⟩
abbrev cc0_stg26_0 : Ref sig .tc := ⟨.vmem, 38, rfl⟩
abbrev cc0_stg27_0 : Ref sig .tc := ⟨.vmem, 39, rfl⟩
abbrev cc0_stg28_0 : Ref sig .tc := ⟨.vmem, 40, rfl⟩
abbrev cc0_stg29_0 : Ref sig .tc := ⟨.vmem, 41, rfl⟩
abbrev cc0_stg30_0 : Ref sig .tc := ⟨.vmem, 42, rfl⟩
abbrev cc0_scratch0 : Ref sig .tc := ⟨.vmem, 43, rfl⟩
abbrev cc0_scratch1 : Ref sig .tc := ⟨.vmem, 44, rfl⟩
abbrev cc0_scratch2 : Ref sig .tc := ⟨.vmem, 45, rfl⟩
abbrev cc0_scratch3 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem21_0 : DmaSem sig := 33
abbrev cc0_sem22_0 : DmaSem sig := 34
abbrev cc0_sem23_0 : DmaSem sig := 35
abbrev cc0_sem24_0 : DmaSem sig := 36
abbrev cc0_sem25_0 : DmaSem sig := 37
abbrev cc0_sem26_0 : DmaSem sig := 38
abbrev cc0_sem27_0 : DmaSem sig := 39
abbrev cc0_sem28_0 : DmaSem sig := 40
abbrev cc0_sem29_0 : DmaSem sig := 41
abbrev cc0_sem30_0 : DmaSem sig := 42

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v246 : BitVec 1 := Scalar.cmpi .eq arg0 c15_i32
  let v247 : BitVec 32 := Scalar.extui v246
  let c0_i32_127 : BitVec 32 := 0#32
  let v248 : BitVec 1 := Scalar.cmpi .ne v247 c0_i32_127
  v248

@[reducible] def k0_t1_loop : Scf.Loop 32 :=
  let c0_i32_128 : BitVec 32 := 0#32
  let c16_i32 : BitVec 32 := 16#32
  let v249 : BitVec 32 := Scalar.addi c0_i32_128 c16_i32
  let c1_i32 : BitVec 32 := 1#32
  ⟨c0_i32_128, v249, c1_i32⟩
def k0_mult1 (k0_t1 : Fin k0_t1_loop.trips) : BitVec 32 :=
  let c0_i32_128 : BitVec 32 := 0#32
  let c1_i32 : BitVec 32 := 1#32
  let arg36 : BitVec 32 := Scf.iv c0_i32_128 c1_i32 k0_t1
  let c64_i32 : BitVec 32 := 64#32
  let v314 : BitVec 32 := Scalar.muli arg36 c64_i32
  v314
def k0_off1 (k0_t1 : Fin k0_t1_loop.trips) : Fin 2 → Nat :=
  let c0_i32_128 : BitVec 32 := 0#32
  let c1_i32 : BitVec 32 := 1#32
  let arg36 : BitVec 32 := Scf.iv c0_i32_128 c1_i32 k0_t1
  let c64_i32 : BitVec 32 := 64#32
  let v314 : BitVec 32 := Scalar.muli arg36 c64_i32
  let v315 : BitVec 32 := v314
  let v316 : Index := Scalar.indexCast v315
  let c0_183 : Index := 0#32
  ![v316.toNat, 0]
@[reducible] def k0_t2_loop : Scf.Loop 32 :=
  let c0_i32_130 : BitVec 32 := 0#32
  let c16_i32_131 : BitVec 32 := 16#32
  let v250 : BitVec 32 := Scalar.addi c0_i32_130 c16_i32_131
  let c1_i32_132 : BitVec 32 := 1#32
  ⟨c0_i32_130, v250, c1_i32_132⟩
def k0_mult2 (k0_t2 : Fin k0_t2_loop.trips) : BitVec 32 :=
  let c0_i32_130 : BitVec 32 := 0#32
  let c1_i32_132 : BitVec 32 := 1#32
  let arg36 : BitVec 32 := Scf.iv c0_i32_130 c1_i32_132 k0_t2
  let c64_i32 : BitVec 32 := 64#32
  let v314 : BitVec 32 := Scalar.muli arg36 c64_i32
  v314
def k0_off2 (k0_t2 : Fin k0_t2_loop.trips) : Fin 2 → Nat :=
  let c0_i32_130 : BitVec 32 := 0#32
  let c1_i32_132 : BitVec 32 := 1#32
  let arg36 : BitVec 32 := Scf.iv c0_i32_130 c1_i32_132 k0_t2
  let c64_i32 : BitVec 32 := 64#32
  let v314 : BitVec 32 := Scalar.muli arg36 c64_i32
  let v315 : BitVec 32 := v314
  let v316 : Index := Scalar.indexCast v315
  let c0_183 : Index := 0#32
  ![v316.toNat, 0]
@[reducible] def k0_t3_loop : Scf.Loop 32 :=
  let c0_i32_134 : BitVec 32 := 0#32
  let c8_i32 : BitVec 32 := 8#32
  let v251 : BitVec 32 := Scalar.addi c0_i32_134 c8_i32
  let c1_i32_135 : BitVec 32 := 1#32
  ⟨c0_i32_134, v251, c1_i32_135⟩
def k0_mult3 (k0_t3 : Fin k0_t3_loop.trips) : BitVec 32 :=
  let c0_i32_134 : BitVec 32 := 0#32
  let c1_i32_135 : BitVec 32 := 1#32
  let arg36 : BitVec 32 := Scf.iv c0_i32_134 c1_i32_135 k0_t3
  let c64_i32 : BitVec 32 := 64#32
  let v314 : BitVec 32 := Scalar.muli arg36 c64_i32
  v314
def k0_off3 (k0_t3 : Fin k0_t3_loop.trips) : Fin 2 → Nat :=
  let c0_i32_134 : BitVec 32 := 0#32
  let c1_i32_135 : BitVec 32 := 1#32
  let arg36 : BitVec 32 := Scf.iv c0_i32_134 c1_i32_135 k0_t3
  let c64_i32 : BitVec 32 := 64#32
  let v314 : BitVec 32 := Scalar.muli arg36 c64_i32
  let v315 : BitVec 32 := v314
  let v316 : Index := Scalar.indexCast v315
  let c0_183 : Index := 0#32
  ![v316.toNat, 0]
def k0_mult4 : BitVec 32 :=
  let c0_i32_137 : BitVec 32 := 0#32
  c0_i32_137
def k0_mult5 : BitVec 32 :=
  let c0_i32_142 : BitVec 32 := 0#32
  c0_i32_142
def k0_mult6 : BitVec 32 :=
  let c0_i32_147 : BitVec 32 := 0#32
  c0_i32_147
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x64x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x256x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1024x1024 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1024x1024 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S8x256x128 .bf16 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S512x512 .bf16 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]
-- ==== Reference5Ideal.lean ====
abbrev S4096x1024 : Shape := ⟨2, ![4096, 1024]⟩
abbrev S4096x512 : Shape := ⟨2, ![4096, 512]⟩
abbrev S4096x256 : Shape := ⟨2, ![4096, 256]⟩
abbrev S512x512 : Shape := ⟨2, ![512, 512]⟩
abbrev S1x512 : Shape := ⟨2, ![1, 512]⟩
abbrev S1024x1024 : Shape := ⟨2, ![1024, 1024]⟩
abbrev S1x1024 : Shape := ⟨2, ![1, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩

abbrev nBuf : Space → Nat
  | .hbm => 173
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S4096x512, .f32⟩
  | 4 => ⟨S4096x512, .f32⟩
  | 5 => ⟨S4096x256, .f32⟩
  | 6 => ⟨S4096x1024, .f32⟩
  | 7 => ⟨S512x512, .f32⟩
  | 8 => ⟨S1x512, .f32⟩
  | 9 => ⟨S1024x1024, .f32⟩
  | 10 => ⟨S1x1024, .f32⟩
  | 11 => ⟨S1024x1024, .f32⟩
  | 12 => ⟨S1x1024, .f32⟩
  | 13 => ⟨S256x1024, .f32⟩
  | 14 => ⟨S4096x512, .f32⟩
  | 15 => ⟨S4096x512, .f32⟩
  | 16 => ⟨S_, .f32⟩
  | 17 => ⟨S4096x512, .f32⟩
  | 18 => ⟨S4096x512, .f32⟩
  | 19 => ⟨S4096x512, .f32⟩
  | 20 => ⟨S_, .f32⟩
  | 21 => ⟨S4096x512, .f32⟩
  | 22 => ⟨S4096x512, .f32⟩
  | 23 => ⟨S4096x512, .f32⟩
  | 24 => ⟨S_, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S_, .f32⟩
  | 37 => ⟨S4096x512, .f32⟩
  | 38 => ⟨S4096x512, .f32⟩
  | 39 => ⟨S_, .f32⟩
  | 40 => ⟨S4096x512, .f32⟩
  | 41 => ⟨S4096x512, .f32⟩
  | 42 => ⟨S4096x512, .f32⟩
  | 43 => ⟨S4096x512, .f32⟩
  | 44 => ⟨S4096x512, .f32⟩
  | 45 => ⟨S_, .f32⟩
  | 46 => ⟨S4096x512, .f32⟩
  | 47 => ⟨S4096x512, .f32⟩
  | 48 => ⟨S_, .f32⟩
  | 49 => ⟨S4096x512, .f32⟩
  | 50 => ⟨S4096x512, .f32⟩
  | 51 => ⟨S_, .f32⟩
  | 52 => ⟨S4096x512, .f32⟩
  | 53 => ⟨S4096x512, .f32⟩
  | 54 => ⟨S4096x512, .f32⟩
  | 55 => ⟨S4096x512, .f32⟩
  | 56 => ⟨S4096x512, .f32⟩
  | 57 => ⟨S4096x512, .f32⟩
  | 58 => ⟨S4096x512, .f32⟩
  | 59 => ⟨S_, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S4096x512, .f32⟩
  | 69 => ⟨S4096x512, .f32⟩
  | 70 => ⟨S4096x512, .f32⟩
  | 71 => ⟨S4096x1024, .f32⟩
  | 72 => ⟨S4096x1024, .f32⟩
  | 73 => ⟨S4096x1024, .f32⟩
  | 74 => ⟨S_, .f32⟩
  | 75 => ⟨S4096, .f32⟩
  | 76 => ⟨S4096x1, .f32⟩
  | 77 => ⟨S_, .f32⟩
  | 78 => ⟨S4096x1, .f32⟩
  | 79 => ⟨S4096x1, .f32⟩
  | 80 => ⟨S_, .f32⟩
  | 81 => ⟨S4096x1, .f32⟩
  | 82 => ⟨S4096x1, .f32⟩
  | 83 => ⟨S4096x1, .f32⟩
  | 84 => ⟨S4096x1, .f32⟩
  | 85 => ⟨S_, .f32⟩
  | 86 => ⟨S4096x1, .f32⟩
  | 87 => ⟨S4096x1, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S_, .f32⟩
  | 99 => ⟨S4096x1024, .f32⟩
  | 100 => ⟨S4096x1024, .f32⟩
  | 101 => ⟨S_, .f32⟩
  | 102 => ⟨S4096x1024, .f32⟩
  | 103 => ⟨S4096x1024, .f32⟩
  | 104 => ⟨S_, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S_, .f32⟩
  | 114 => ⟨S4096x1024, .f32⟩
  | 115 => ⟨S4096x1024, .f32⟩
  | 116 => ⟨S_, .f32⟩
  | 117 => ⟨S4096, .f32⟩
  | 118 => ⟨S_, .f32⟩
  | 119 => ⟨S4096, .f32⟩
  | 120 => ⟨S4096, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4096x1024, .f32⟩

abbrev hbmTy0_1 (i : Nat) : BufTy := match i % 128 with
  | 0 => ⟨S4096, .f32⟩
  | 1 => ⟨S_, .f32⟩
  | 2 => ⟨S4096, .f32⟩
  | 3 => ⟨S4096, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S_, .f32⟩
  | 14 => ⟨S4096, .f32⟩
  | 15 => ⟨S4096x1, .f32⟩
  | 16 => ⟨S4096x1024, .f32⟩
  | 17 => ⟨S4096x1024, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S4096x512, .bf16⟩
  | 44 => ⟨S4096x512, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v23_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v23_1 : Ref sig .tc := ⟨.hbm, 54, rfl⟩
abbrev main_v23_0 : Ref sig .tc := ⟨.hbm, 55, rfl⟩
abbrev main_v24 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_v25_2 : Ref sig .tc := ⟨.hbm, 64, rfl⟩
abbrev main_call1_cst_1 : Ref sig .tc := ⟨.hbm, 65, rfl⟩
abbrev main_call1_v6 : Ref sig .tc := ⟨.hbm, 66, rfl⟩
abbrev main_call1_v7 : Ref sig .tc := ⟨.hbm, 67, rfl⟩
abbrev main_v25_1 : Ref sig .tc := ⟨.hbm, 68, rfl⟩
abbrev main_v25_0 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_cst_5 : Ref sig .tc := ⟨.hbm, 74, rfl⟩
abbrev main_v30 : Ref sig .tc := ⟨.hbm, 75, rfl⟩
abbrev main_v31 : Ref sig .tc := ⟨.hbm, 76, rfl⟩
abbrev main_cst_6 : Ref sig .tc := ⟨.hbm, 77, rfl⟩
abbrev main_v32 : Ref sig .tc := ⟨.hbm, 78, rfl⟩
abbrev main_v33 : Ref sig .tc := ⟨.hbm, 79, rfl⟩
abbrev main_cst_7 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_cst_8 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_cst_9 : Ref sig .tc := ⟨.hbm, 98, rfl⟩
abbrev main_v50 : Ref sig .tc := ⟨.hbm, 99, rfl⟩
abbrev main_v51 : Ref sig .tc := ⟨.hbm, 100, rfl⟩
abbrev main_cst_10 : Ref sig .tc := ⟨.hbm, 101, rfl⟩
abbrev main_v52 : Ref sig .tc := ⟨.hbm, 102, rfl⟩
abbrev main_v53 : Ref sig .tc := ⟨.hbm, 103, rfl⟩
abbrev main_cst_11 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_12 : Ref sig .tc := ⟨.hbm, 113, rfl⟩
abbrev main_v62 : Ref sig .tc := ⟨.hbm, 114, rfl⟩
abbrev main_v63 : Ref sig .tc := ⟨.hbm, 115, rfl⟩
abbrev main_cst_13 : Ref sig .tc := ⟨.hbm, 116, rfl⟩
abbrev main_v64 : Ref sig .tc := ⟨.hbm, 117, rfl⟩
abbrev main_cst_14 : Ref sig .tc := ⟨.hbm, 118, rfl⟩
abbrev main_v65 : Ref sig .tc := ⟨.hbm, 119, rfl⟩
abbrev main_v66 : Ref sig .tc := ⟨.hbm, 120, rfl⟩
abbrev main_cst_15 : Ref sig .tc := ⟨.hbm, 121, rfl⟩
abbrev main_v67 : Ref sig .tc := ⟨.hbm, 122, rfl⟩
abbrev main_cst_16 : Ref sig .tc := ⟨.hbm, 123, rfl⟩
abbrev main_v68 : Ref sig .tc := ⟨.hbm, 124, rfl⟩
abbrev main_cst_17 : Ref sig .tc := ⟨.hbm, 125, rfl⟩
abbrev main_cst_18 : Ref sig .tc := ⟨.hbm, 126, rfl⟩
abbrev main_v69 : Ref sig .tc := ⟨.hbm, 127, rfl⟩
abbrev main_v70 : Ref sig .tc := ⟨.hbm, 128, rfl⟩
abbrev main_cst_19 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_cst_20 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_cst_21 : Ref sig .tc := ⟨.hbm, 147, rfl⟩
abbrev main_v87 : Ref sig .tc := ⟨.hbm, 148, rfl⟩
abbrev main_v88 : Ref sig .tc := ⟨.hbm, 149, rfl⟩
abbrev main_cst_22 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_call2_v0 : Ref sig .tc := ⟨.hbm, 162, rfl⟩
abbrev main_call2_v1 : Ref sig .tc := ⟨.hbm, 163, rfl⟩
abbrev main_call2_v2 : Ref sig .tc := ⟨.hbm, 164, rfl⟩
abbrev main_v100 : Ref sig .tc := ⟨.hbm, 165, rfl⟩
abbrev main_v101 : Ref sig .tc := ⟨.hbm, 166, rfl⟩
abbrev main_call3_v0 : Ref sig .tc := ⟨.hbm, 167, rfl⟩
abbrev main_call3_v1 : Ref sig .tc := ⟨.hbm, 168, rfl⟩
abbrev main_call3_v2 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩

abbrev nD : Nat := 1
abbrev τ : Topo := Topo.v7x

variable {F : FTy → Type} [FloatOps F]
-- ==== Proof.In.Blocks.lean ====
/-
  What one grid point of the backward pass of the input projection leaves in its buffers, as functions of the blocks
  it reads: the gradient of the residual stream, the running weight gradient, the running gradient of the norm's
  scale, and, at the last point, the two copies of the weight gradient that leave the kernel.
-/
module

public import proofs.«01_k».proof.Proof.Gen.Kernel3Ideal.Value
public import Idealize.ShloMosaic.Lib.Pipeline.Value
public import Idealize.ShloMosaic.Lib.Tactic

@[expose] public section

noncomputable section

open Idealize.ShloMosaic Idealize.ShloMosaic.TcCoe Idealize.SL.Sem

namespace Cert.InBack

open Cert.Kernel3Ideal Cert.Kernel3Ideal.Gen Cert.Kernel3Ideal.Value

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The block of the residual stream's gradient. -/
def gxBlk (x0 x1 : Vec F S512x1024 .f32) (x2 : Vec F S512x512 .f32) (x3 : Vec F S512x512 .bf16) (x4 : Vec F S512x512 .f32)
    (x5 x6 : Vec F S512x128 .f32) (x7 : Vec F S512x512 .bf16) (x8 : Vec F S1x1024 .f32) (x9 : Vec F S2304x1024 .bf16) :
    Vec F S512x1024 .f32 :=
  k0_pay1 (k0_pay8 x0) (k0_pay9 x0) (k0_pay13 x8 x2 x3 x4 x5 x6 x7 x9) x1

/-- The running weight gradient after a point, over what it held before. -/
def dwBlk (x0 : Vec F S512x1024 .f32) (x2 : Vec F S512x512 .f32) (x3 : Vec F S512x512 .bf16) (x4 : Vec F S512x512 .f32)
    (x5 x6 : Vec F S512x128 .f32) (x7 : Vec F S512x512 .bf16) (x8 : Vec F S1x1024 .f32) (acc : Vec F S2304x1024 .f32) :
    Vec F S2304x1024 .f32 :=
  k0_pay2 (k0_pay10 x0 x8) (k0_pay11 x2 x3 x4 x5 x6 x7) acc

/-- The running gradient of the norm's scale after a point, over what it held before. -/
def dgBlk (x0 : Vec F S512x1024 .f32) (x2 : Vec F S512x512 .f32) (x3 : Vec F S512x512 .bf16) (x4 : Vec F S512x512 .f32)
    (x5 x6 : Vec F S512x128 .f32) (x7 : Vec F S512x512 .bf16) (x9 : Vec F S2304x1024 .bf16) (acc : Vec F S1x1024 .f32) :
    Vec F S1x1024 .f32 :=
  k0_pay3 (k0_pay9 x0) (k0_pay12 x2 x3 x4 x5 x6 x7 x9) acc

/-- At the first point the running gradients start from zero. -/
theorem outs_A (c : Dev nD) (t : Fin cfg0.N) (h0 : t.val % 8 = 0) (h1 : ¬t.val % 8 = 7) :
    (outsAt0 m c t.val t.isLt).1 = gxBlk (iblk m c 0 t) (iblk m c 1 t) (iblk m c 2 t) (iblk m c 3 t) (iblk m c 4 t) (iblk m c 5 t) (iblk m c 6 t) (iblk m c 7 t) (iblk m c 8 t) (iblk m c 9 t)
    ∧ (outsAt0 m c t.val t.isLt).2.2.1 = dgBlk (iblk m c 0 t) (iblk m c 2 t) (iblk m c 3 t) (iblk m c 4 t) (iblk m c 5 t) (iblk m c 6 t) (iblk m c 7 t) (iblk m c 9 t) k0_pay7
    ∧ (outsAt0 m c t.val t.isLt).2.2.2.2 = dwBlk (iblk m c 0 t) (iblk m c 2 t) (iblk m c 3 t) (iblk m c 4 t) (iblk m c 5 t) (iblk m c 6 t) (iblk m c 7 t) (iblk m c 8 t) k0_pay6 := by
  rw [outsAt0_A m c t h0 h1]
  dsimp only
  refine ⟨?_, ?_, ?_⟩
  · unfold out0_A_10
    refine (View.read_writes_eq_canon _ _ _ (fun y => cover0_A_10 ..)).trans ?_
    unfold kernelRun0_A
    dsimp only
    sl_unfold_words
    first | rw [View.canon_unit_zero hz2] | rw [View.canon_cons_unit_zero hz2]
    simp only [View.readCov_unit_zero (S := S1x1024) _ hz2, View.readCov_unit_zero (S := S2304x1024) _ hz2,
      View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      (hs0_12 t).read_unread, (Memref.isWhole_whole cc0_scratch0).read_unread,
      View.ld_unit_zero (S := S512x1024) hz2, View.ld_unit_zero (S := S512x512) hz2, View.ld_unit_zero (S := S512x128) hz2, View.ld_unit_zero (S := S1x1024) hz2, View.ld_unit_zero (S := S2304x1024) hz2]
    rfl
  · unfold out0_A_12
    refine (View.read_writes_eq_canon _ _ _ (fun y => cover0_A_12 ..)).trans ?_
    unfold kernelRun0_A
    dsimp only
    sl_unfold_words
    first | rw [View.canon_unit_zero hz2] | rw [View.canon_cons_unit_zero hz2]
    simp only [View.readCov_unit_zero (S := S1x1024) _ hz2, View.readCov_unit_zero (S := S2304x1024) _ hz2,
      View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      (hs0_12 t).read_unread, (Memref.isWhole_whole cc0_scratch0).read_unread,
      View.ld_unit_zero (S := S512x1024) hz2, View.ld_unit_zero (S := S512x512) hz2, View.ld_unit_zero (S := S512x128) hz2, View.ld_unit_zero (S := S1x1024) hz2, View.ld_unit_zero (S := S2304x1024) hz2]
    rfl
  · unfold sout0_A_0
    refine (View.read_writes_eq_canon _ _ _ (fun y => scover0_A_0 ..)).trans ?_
    unfold kernelRun0_A
    dsimp only
    sl_unfold_words
    first | rw [View.canon_unit_zero hz2] | rw [View.canon_cons_unit_zero hz2]
    simp only [View.readCov_unit_zero (S := S1x1024) _ hz2, View.readCov_unit_zero (S := S2304x1024) _ hz2,
      View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      (hs0_12 t).read_unread, (Memref.isWhole_whole cc0_scratch0).read_unread,
      View.ld_unit_zero (S := S512x1024) hz2, View.ld_unit_zero (S := S512x512) hz2, View.ld_unit_zero (S := S512x128) hz2, View.ld_unit_zero (S := S1x1024) hz2, View.ld_unit_zero (S := S2304x1024) hz2]
    rfl

/-- At an inner point the running gradients go on from the point before. -/
theorem outs_B (c : Dev nD) (t : Fin cfg0.N) (h0 : ¬t.val % 8 = 0) (h1 : ¬t.val % 8 = 7) :
    (outsAt0 m c t.val t.isLt).1 = gxBlk (iblk m c 0 t) (iblk m c 1 t) (iblk m c 2 t) (iblk m c 3 t) (iblk m c 4 t) (iblk m c 5 t) (iblk m c 6 t) (iblk m c 7 t) (iblk m c 8 t) (iblk m c 9 t)
    ∧ (outsAt0 m c t.val t.isLt).2.2.1 = dgBlk (iblk m c 0 t) (iblk m c 2 t) (iblk m c 3 t) (iblk m c 4 t) (iblk m c 5 t) (iblk m c 6 t) (iblk m c 7 t) (iblk m c 9 t) (outsAt0 m c (t.val - 1) (by have := t.isLt; omega)).2.2.1
    ∧ (outsAt0 m c t.val t.isLt).2.2.2.2 = dwBlk (iblk m c 0 t) (iblk m c 2 t) (iblk m c 3 t) (iblk m c 4 t) (iblk m c 5 t) (iblk m c 6 t) (iblk m c 7 t) (iblk m c 8 t) (outsAt0 m c (t.val - 1) (by have := t.isLt; omega)).2.2.2.2 := by
  rw [outsAt0_B m c t h0 h1]
  dsimp only
  refine ⟨?_, ?_, ?_⟩
  · unfold out0_B_10
    refine (View.read_writes_eq_canon _ _ _ (fun y => cover0_B_10 ..)).trans ?_
    unfold kernelRun0_B
    dsimp only
    sl_unfold_words
    first | rw [View.canon_unit_zero hz2] | rw [View.canon_cons_unit_zero hz2]
    simp only [View.readCov_unit_zero (S := S1x1024) _ hz2, View.readCov_unit_zero (S := S2304x1024) _ hz2,
      View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      (hs0_12 t).read_unread, (Memref.isWhole_whole cc0_scratch0).read_unread,
      View.ld_unit_zero (S := S512x1024) hz2, View.ld_unit_zero (S := S512x512) hz2, View.ld_unit_zero (S := S512x128) hz2, View.ld_unit_zero (S := S1x1024) hz2, View.ld_unit_zero (S := S2304x1024) hz2]
    rfl
  · unfold out0_B_12
    refine (View.read_writes_eq_canon _ _ _ (fun y => cover0_B_12 ..)).trans ?_
    unfold kernelRun0_B
    dsimp only
    sl_unfold_words
    first | rw [View.canon_unit_zero hz2] | rw [View.canon_cons_unit_zero hz2]
    simp only [View.readCov_unit_zero (S := S1x1024) _ hz2, View.readCov_unit_zero (S := S2304x1024) _ hz2,
      View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      (hs0_12 t).read_unread, (Memref.isWhole_whole cc0_scratch0).read_unread,
      View.ld_unit_zero (S := S512x1024) hz2, View.ld_unit_zero (S := S512x512) hz2, View.ld_unit_zero (S := S512x128) hz2, View.ld_unit_zero (S := S1x1024) hz2, View.ld_unit_zero (S := S2304x1024) hz2]
    rfl
  · unfold sout0_B_0
    refine (View.read_writes_eq_canon _ _ _ (fun y => scover0_B_0 ..)).trans ?_
    unfold kernelRun0_B
    dsimp only
    sl_unfold_words
    first | rw [View.canon_unit_zero hz2] | rw [View.canon_cons_unit_zero hz2]
    simp only [View.readCov_unit_zero (S := S1x1024) _ hz2, View.readCov_unit_zero (S := S2304x1024) _ hz2,
      View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      (hs0_12 t).read_unread, (Memref.isWhole_whole cc0_scratch0).read_unread,
      View.ld_unit_zero (S := S512x1024) hz2, View.ld_unit_zero (S := S512x512) hz2, View.ld_unit_zero (S := S512x128) hz2, View.ld_unit_zero (S := S1x1024) hz2, View.ld_unit_zero (S := S2304x1024) hz2]
    rfl

/-- At the last point they go on likewise. -/
theorem outs_C (c : Dev nD) (t : Fin cfg0.N) (h0 : ¬t.val % 8 = 0) (h1 : t.val % 8 = 7) :
    (outsAt0 m c t.val t.isLt).1 = gxBlk (iblk m c 0 t) (iblk m c 1 t) (iblk m c 2 t) (iblk m c 3 t) (iblk m c 4 t) (iblk m c 5 t) (iblk m c 6 t) (iblk m c 7 t) (iblk m c 8 t) (iblk m c 9 t)
    ∧ (outsAt0 m c t.val t.isLt).2.2.1 = dgBlk (iblk m c 0 t) (iblk m c 2 t) (iblk m c 3 t) (iblk m c 4 t) (iblk m c 5 t) (iblk m c 6 t) (iblk m c 7 t) (iblk m c 9 t) (outsAt0 m c (t.val - 1) (by have := t.isLt; omega)).2.2.1
    ∧ (outsAt0 m c t.val t.isLt).2.2.2.2 = dwBlk (iblk m c 0 t) (iblk m c 2 t) (iblk m c 3 t) (iblk m c 4 t) (iblk m c 5 t) (iblk m c 6 t) (iblk m c 7 t) (iblk m c 8 t) (outsAt0 m c (t.val - 1) (by have := t.isLt; omega)).2.2.2.2 := by
  rw [outsAt0_C m c t h0 h1]
  dsimp only
  refine ⟨?_, ?_, ?_⟩
  · unfold out0_C_10
    refine (View.read_writes_eq_canon _ _ _ (fun y => cover0_C_10 ..)).trans ?_
    unfold kernelRun0_C
    dsimp only
    sl_unfold_words
    first | rw [View.canon_unit_zero hz2] | rw [View.canon_cons_unit_zero hz2]
    simp only [View.readCov_unit_zero (S := S1x1024) _ hz2, View.readCov_unit_zero (S := S2304x1024) _ hz2,
      View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      (hs0_12 t).read_unread, (Memref.isWhole_whole cc0_scratch0).read_unread,
      View.ld_unit_zero (S := S512x1024) hz2, View.ld_unit_zero (S := S512x512) hz2, View.ld_unit_zero (S := S512x128) hz2, View.ld_unit_zero (S := S1x1024) hz2, View.ld_unit_zero (S := S2304x1024) hz2]
    rfl
  · unfold out0_C_12
    refine (View.read_writes_eq_canon _ _ _ (fun y => cover0_C_12 ..)).trans ?_
    unfold kernelRun0_C
    dsimp only
    sl_unfold_words
    first | rw [View.canon_unit_zero hz2] | rw [View.canon_cons_unit_zero hz2]
    simp only [View.readCov_unit_zero (S := S1x1024) _ hz2, View.readCov_unit_zero (S := S2304x1024) _ hz2,
      View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      (hs0_12 t).read_unread, (Memref.isWhole_whole cc0_scratch0).read_unread,
      View.ld_unit_zero (S := S512x1024) hz2, View.ld_unit_zero (S := S512x512) hz2, View.ld_unit_zero (S := S512x128) hz2, View.ld_unit_zero (S := S1x1024) hz2, View.ld_unit_zero (S := S2304x1024) hz2]
    rfl
  · unfold sout0_C_0
    refine (View.read_writes_eq_canon _ _ _ (fun y => scover0_C_0 ..)).trans ?_
    unfold kernelRun0_C
    dsimp only
    sl_unfold_words
    first | rw [View.canon_unit_zero hz2] | rw [View.canon_cons_unit_zero hz2]
    simp only [View.readCov_unit_zero (S := S1x1024) _ hz2, View.readCov_unit_zero (S := S2304x1024) _ hz2,
      View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      (hs0_12 t).read_unread, (Memref.isWhole_whole cc0_scratch0).read_unread,
      View.ld_unit_zero (S := S512x1024) hz2, View.ld_unit_zero (S := S512x512) hz2, View.ld_unit_zero (S := S512x128) hz2, View.ld_unit_zero (S := S1x1024) hz2, View.ld_unit_zero (S := S2304x1024) hz2]
    rfl

end Cert.InBack
-- ==== Proof.In.Reads.lean ====
/-
  What the windows of the input projection's backward pass bring in: rows 512·t … 512·t + 511 of the arrays by rows, and
  the whole of the scale and of the transposed weight.
-/
module

public import proofs.«01_k».proof.Proof.In.Blocks
public import Idealize.ShloMosaic.Lib.Pointwise
public import Idealize.ShloMosaic.Lib.StableHlo.ReadAt

@[expose] public section

noncomputable section

open Idealize.ShloMosaic Idealize.ShloMosaic.TcCoe Idealize.SL.Sem

namespace Cert.InBack

open Cert.Kernel3Ideal Cert.Kernel3Ideal.Gen

variable (m : (ℓ : Loc nD τ sig) → Buf (Elt Ideal) ℓ)

/-- The row of the whole array that row `r` of point `t`'s block is. -/
def row (t : Fin cfg0.N) (r : Fin 512) : Fin 4096 :=
  ⟨512 * t.val + r.val, by have h : t.val < 8 := lt_of_lt_of_eq t.isLt N_0; omega⟩

/-- Each window by rows stands at block `t`, and the two whole windows at their only block. -/
theorem index_all (t : Fin cfg0.N) :
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = 0 ∧ win0_8.index t 1 = 0)
    ∧ (win0_9.index t 0 = 0 ∧ win0_9.index t 1 = 0) := by
  revert t; decide +kernel

theorem read0 (c : Dev nD) (t : Fin cfg0.N) (r : Fin 512) (k : Fin 1024) :
    iblk m c 0 t (ix2 r k) = m ((c : Thread nD τ).loc main_arg0) (ix2 (row t r) k) := by
  unfold iblk
  rw [View.read_apply]
  show V m c main_arg0 _ = m (c.tc.loc main_arg0) _
  rw [V_main_arg0]
  have hi := (index_all t).1
  congr 1
  funext a
  apply Fin.ext
  match a with
  | ⟨0, _⟩ => show win0_0.index t 0 * 512 + 1 * r.val = 512 * t.val + r.val; rw [hi.1]; omega
  | ⟨1, _⟩ => show win0_0.index t 1 * 1024 + 1 * k.val = k.val; rw [hi.2]; omega

theorem read1 (c : Dev nD) (t : Fin cfg0.N) (r : Fin 512) (k : Fin 1024) :
    iblk m c 1 t (ix2 r k) = m ((c : Thread nD τ).loc main_arg1) (ix2 (row t r) k) := by
  unfold iblk
  rw [View.read_apply]
  show V m c main_arg1 _ = m (c.tc.loc main_arg1) _
  rw [V_main_arg1]
  have hi := (index_all t).2.1
  congr 1
  funext a
  apply Fin.ext
  match a with
  | ⟨0, _⟩ => show win0_1.index t 0 * 512 + 1 * r.val = 512 * t.val + r.val; rw [hi.1]; omega
  | ⟨1, _⟩ => show win0_1.index t 1 * 1024 + 1 * k.val = k.val; rw [hi.2]; omega

theorem read2 (c : Dev nD) (t : Fin cfg0.N) (r : Fin 512) (k : Fin 512) :
    iblk m c 2 t (ix2 r k) = m ((c : Thread nD τ).loc main_arg2) (ix2 (row t r) k) := by
  unfold iblk
  rw [View.read_apply]
  show V m c main_arg2 _ = m (c.tc.loc main_arg2) _
  rw [V_main_arg2]
  have hi := (index_all t).2.2.1
  congr 1
  funext a
  apply Fin.ext
  match a with
  | ⟨0, _⟩ => show win0_2.index t 0 * 512 + 1 * r.val = 512 * t.val + r.val; rw [hi.1]; omega
  | ⟨1, _⟩ => show win0_2.index t 1 * 512 + 1 * k.val = k.val; rw [hi.2]; omega

theorem read3 (c : Dev nD) (t : Fin cfg0.N) (r : Fin 512) (k : Fin 512) :
    iblk m c 3 t (ix2 r k) = m ((c : Thread nD τ).loc main_arg3) (ix2 (row t r) k) := by
  unfold iblk
  rw [View.read_apply]
  show V m c main_arg3 _ = m (c.tc.loc main_arg3) _
  rw [V_main_arg3]
  have hi := (index_all t).2.2.2.1
  congr 1
  funext a
  apply Fin.ext
  match a with
  | ⟨0, _⟩ => show win0_3.index t 0 * 512 + 1 * r.val = 512 * t.val + r.val; rw [hi.1]; omega
  | ⟨1, _⟩ => show win0_3.index t 1 * 512 + 1 * k.val = k.val; rw [hi.2]; omega

theorem read4 (c : Dev nD) (t : Fin cfg0.N) (r : Fin 512) (k : Fin 512) :
    iblk m c 4 t (ix2 r k) = m ((c : Thread nD τ).loc main_arg4) (ix2 (row t r) k) := by
  unfold iblk
  rw [View.read_apply]
  show V m c main_arg4 _ = m (c.tc.loc main_arg4) _
  rw [V_main_arg4]
  have hi := (index_all t).2.2.2.2.1
  congr 1
  funext a
  apply Fin.ext
  match a with
  | ⟨0, _⟩ => show win0_4.index t 0 * 512 + 1 * r.val = 512 * t.val + r.val; rw [hi.1]; omega
  | ⟨1, _⟩ => show win0_4.index t 1 * 512 + 1 * k.val = k.val; rw [hi.2]; omega

theorem read5 (c : Dev nD) (t : Fin cfg0.N) (r : Fin 512) (k : Fin 128) :
    iblk m c 5 t (ix2 r k) = m ((c : Thread nD τ).loc main_arg5) (ix2 (row t r) k) := by
  unfold iblk
  rw [View.read_apply]
  show V m c main_arg5 _ = m (c.tc.loc main_arg5) _
  rw [V_main_arg5]
  have hi := (index_all t).2.2.2.2.2.1
  congr 1
  funext a
  apply Fin.ext
  match a with
  | ⟨0, _⟩ => show win0_5.index t 0 * 512 + 1 * r.val = 512 * t.val + r.val; rw [hi.1]; omega
  | ⟨1, _⟩ => show win0_5.index t 1 * 128 + 1 * k.val = k.val; rw [hi.2]; omega

theorem read6 (c : Dev nD) (t : Fin cfg0.N) (r : Fin 512) (k : Fin 128) :
    iblk m c 6 t (ix2 r k) = m ((c : Thread nD τ).loc main_arg6) (ix2 (row t r) k) := by
  unfold iblk
  rw [View.read_apply]
  show V m c main_arg6 _ = m (c.tc.loc main_arg6) _
  rw [V_main_arg6]
  have hi := (index_all t).2.2.2.2.2.2.1
  congr 1
  funext a
  apply Fin.ext
  match a with
  | ⟨0, _⟩ => show win0_6.index t 0 * 512 + 1 * r.val = 512 * t.val + r.val; rw [hi.1]; omega
  | ⟨1, _⟩ => show win0_6.index t 1 * 128 + 1 * k.val = k.val; rw [hi.2]; omega

theorem read7 (c : Dev nD) (t : Fin cfg0.N) (r : Fin 512) (k : Fin 512) :
    iblk m c 7 t (ix2 r k) = m ((c : Thread nD τ).loc main_arg7) (ix2 (row t r) k) := by
  unfold iblk
  rw [View.read_apply]
  show V m c main_arg7 _ = m (c.tc.loc main_arg7) _
  rw [V_main_arg7]
  have hi := (index_all t).2.2.2.2.2.2.2.1
  congr 1
  funext a
  apply Fin.ext
  match a with
  | ⟨0, _⟩ => show win0_7.index t 0 * 512 + 1 * r.val = 512 * t.val + r.val; rw [hi.1]; omega
  | ⟨1, _⟩ => show win0_7.index t 1 * 512 + 1 * k.val = k.val; rw [hi.2]; omega

theorem read8 (c : Dev nD) (t : Fin cfg0.N) (r : Fin 1) (k : Fin 1024) :
    iblk m c 8 t (ix2 r k) = m ((c : Thread nD τ).loc main_arg8) (ix2 r k) := by
  unfold iblk
  rw [View.read_apply]
  show V m c main_arg8 _ = m (c.tc.loc main_arg8) _
  rw [V_main_arg8]
  have hi := (index_all t).2.2.2.2.2.2.2.2.1
  congr 1
  funext a
  apply Fin.ext
  match a with
  | ⟨0, _⟩ => show win0_8.index t 0 * 1 + 1 * r.val = r.val; rw [hi.1]; omega
  | ⟨1, _⟩ => show win0_8.index t 1 * 1024 + 1 * k.val = k.val; rw [hi.2]; omega

theorem read9 (c : Dev nD) (t : Fin cfg0.N) (j : Fin 2304) (k : Fin 1024) :
    iblk m c 9 t (ix2 j k) = m ((c : Thread nD τ).loc main_arg9) (ix2 k j) := by
  unfold iblk
  rw [View.read_apply]
  show V m c main_v1 _ = m (c.tc.loc main_arg9) _
  unfold V
  after_reads_at
  have hi := (index_all t).2.2.2.2.2.2.2.2.2
  show m (c.tc.loc main_arg9) _ = _
  congr 1
  funext a
  apply Fin.ext
  match a with
  | ⟨0, _⟩ => show win0_9.index t 1 * 1024 + 1 * k.val = k.val; rw [hi.2]; omega
  | ⟨1, _⟩ => show win0_9.index t 0 * 2304 + 1 * j.val = j.val; rw [hi.1]; omega

end Cert.InBack
-- ==== Proof.In.Point.lean ====
/-
  The blocks of the input projection's backward pass at an index, over the extended reals.
-/
module

public import proofs.«01_k».proof.Proof.In.Blocks
public import proofs.«01_k».proof.Proof.Gen.Reference3Ideal.Read
public import Idealize.ShloMosaic.Lib.Pointwise

@[expose] public section

noncomputable section

open Idealize.ShloMosaic Idealize.ShloMosaic.TcCoe Idealize.SL.Sem

namespace Cert.InBack

open Cert.Kernel3Ideal Cert.Kernel3Ideal.Gen

theorem pay8_at (x : Vec Ideal S512x1024 .f32) (r : Fin 512) (z : Fin 1) :
    k0_pay8 (F := Ideal) x (ix2 r z)
      = Ideal.rsqrt (Ideal.div (∑ k : Fin 1024, x (ix2 r k) * x (ix2 r k)) (Ideal.ofBits .f32 0x44800000#32)
          + Ideal.ofBits .f32 0x358637BD#32) := by
  pointwise [k0_pay8]

theorem pay9_at (x : Vec Ideal S512x1024 .f32) (r : Fin 512) (k : Fin 1024) :
    k0_pay9 (F := Ideal) x (ix2 r k) = x (ix2 r k) * k0_pay8 x (ix2 r 0) := by
  pointwise [k0_pay9]

theorem pay10_at (x : Vec Ideal S512x1024 .f32) (g : Vec Ideal S1x1024 .f32) (r : Fin 512) (k : Fin 1024) :
    k0_pay10 (F := Ideal) x g (ix2 r k) = k0_pay9 x (ix2 r k) * g (ix2 0 k) := by
  pointwise [k0_pay10]

theorem pay12_at (x2 : Vec Ideal S512x512 .f32) (x3 : Vec Ideal S512x512 .bf16) (x4 : Vec Ideal S512x512 .f32)
    (x5 x6 : Vec Ideal S512x128 .f32) (x7 : Vec Ideal S512x512 .bf16) (w : Vec Ideal S2304x1024 .bf16) (r : Fin 512) (k : Fin 1024) :
    k0_pay12 (F := Ideal) x2 x3 x4 x5 x6 x7 w (ix2 r k) = ∑ j : Fin 2304, k0_pay11 x2 x3 x4 x5 x6 x7 (ix2 r j) * w (ix2 j k) := by
  unfold k0_pay12
  generalize k0_pay11 x2 x3 x4 x5 x6 x7 = z
  pointwise

theorem pay2_at (v : Vec Ideal S512x1024 .bf16) (z : Vec Ideal S512x2304 .bf16) (acc : Vec Ideal S2304x1024 .f32) (j : Fin 2304) (k : Fin 1024) :
    k0_pay2 (F := Ideal) v z acc (ix2 j k) = acc (ix2 j k) + ∑ r : Fin 512, z (ix2 r j) * v (ix2 r k) := by
  pointwise [k0_pay2]

theorem pay3_at (v z : Vec Ideal S512x1024 .f32) (acc : Vec Ideal S1x1024 .f32) (k : Fin 1024) :
    k0_pay3 (F := Ideal) v z acc (ix2 0 k) = acc (ix2 0 k) + ∑ r : Fin 512, z (ix2 r k) * v (ix2 r k) := by
  pointwise [k0_pay3]

theorem pay1_at (s : Vec Ideal S512x1 .f32) (v z d : Vec Ideal S512x1024 .f32) (r : Fin 512) (k : Fin 1024) :
    k0_pay1 (F := Ideal) s v z d (ix2 r k)
      = d (ix2 r k) + s (ix2 r 0) * (z (ix2 r k) - v (ix2 r k)
          * Ideal.div (∑ k : Fin 1024, z (ix2 r k) * v (ix2 r k)) (Ideal.ofBits .f32 0x44800000#32)) := by
  pointwise [k0_pay1]

theorem pay6_at (i : S2304x1024.Idx) : k0_pay6 (F := Ideal) i = 0 := by
  idx_vars i
  pointwise [k0_pay6]

theorem pay7_at (i : S1x1024.Idx) : k0_pay7 (F := Ideal) i = 0 := by
  idx_vars i
  pointwise [k0_pay7]

/-- The six blocks side by side hold at a row what the six arrays side by side hold at the row that it comes from. -/
theorem pay11_at (x2 : Vec Ideal S512x512 .f32) (x3 : Vec Ideal S512x512 .bf16) (x4 : Vec Ideal S512x512 .f32)
    (x5 x6 : Vec Ideal S512x128 .f32) (x7 : Vec Ideal S512x512 .bf16)
    (X2 : Vec Ideal S4096x512 .f32) (X3 : Vec Ideal S4096x512 .bf16) (X4 : Vec Ideal S4096x512 .f32)
    (X5 X6 : Vec Ideal S4096x128 .f32) (X7 : Vec Ideal S4096x512 .bf16) (r : Fin 512) (n : Fin 4096)
    (h2 : ∀ k, x2 (ix2 r k) = X2 (ix2 n k)) (h3 : ∀ k, x3 (ix2 r k) = X3 (ix2 n k)) (h4 : ∀ k, x4 (ix2 r k) = X4 (ix2 n k))
    (h5 : ∀ k, x5 (ix2 r k) = X5 (ix2 n k)) (h6 : ∀ k, x6 (ix2 r k) = X6 (ix2 n k)) (h7 : ∀ k, x7 (ix2 r k) = X7 (ix2 n k))
    (j : Fin 2304) :
    k0_pay11 (F := Ideal) x2 x3 x4 x5 x6 x7 (ix2 r j)
      = Cert.Reference3Ideal.Read.val_main_v24 (F := Ideal) X2 X3 X4 X5 X6 X7 (ix2 n j) := by
  pointwise [k0_pay11, Cert.Reference3Ideal.Read.val_main_v24, Cert.Reference3Ideal.Read.val_main_v0,
    Cert.Reference3Ideal.Read.val_main_v1]
  simp only [h2, h3, h4, h5, h6, h7]

theorem pay13_at (g : Vec Ideal S1x1024 .f32) (x2 : Vec Ideal S512x512 .f32) (x3 : Vec Ideal S512x512 .bf16) (x4 : Vec Ideal S512x512 .f32)
    (x5 x6 : Vec Ideal S512x128 .f32) (x7 : Vec Ideal S512x512 .bf16) (w : Vec Ideal S2304x1024 .bf16) (r : Fin 512) (k : Fin 1024) :
    k0_pay13 (F := Ideal) g x2 x3 x4 x5 x6 x7 w (ix2 r k) = k0_pay12 x2 x3 x4 x5 x6 x7 w (ix2 r k) * g (ix2 0 k) := by
  pointwise [k0_pay13]

end Cert.InBack
-- ==== Proof.In.Ref.lean ====
/-
  What the reference of the input projection's backward pass computes, entry by entry: its derivative of the written
  forward lines, read stage by stage.
-/
module

public import proofs.«01_k».proof.Proof.Gen.Reference3Ideal.Read
public import Idealize.ShloMosaic.Lib.Pointwise

@[expose] public section

noncomputable section

open Idealize.ShloMosaic Idealize.ShloMosaic.TcCoe Idealize.SL.Sem

namespace Cert.InBack.Ref

open Cert.Reference3Ideal Cert.Reference3Ideal.Gen Cert.Reference3Ideal.Read

variable (x0 x1 : Vec Ideal S4096x1024 .f32) (x2 : Vec Ideal S4096x512 .f32) (x3 : Vec Ideal S4096x512 .bf16)
  (x4 : Vec Ideal S4096x512 .f32) (x5 x6 : Vec Ideal S4096x128 .f32) (x7 : Vec Ideal S4096x512 .bf16)
  (x8 : Vec Ideal S1x1024 .f32) (x9 : Vec Ideal S1024x2304 .f32)

/-- The gradient that reaches each square of a row through the row's mean square `v`: `x` the row, `y` the gradient of the
    normed row before its scaling by `s`. -/
def meanGrad (x y : Fin 1024 → EReal) (s v : EReal) : EReal :=
  Ideal.div ((∑ k, x k * y k) * (Ideal.ofBits .f32 0xBF000000#32 * Ideal.div s v)) (Ideal.ofBits .f32 0x44800000#32)

theorem v9_at (n : Fin 4096) (z : Fin 1) : val_main_v9 (F := Ideal) x0 (ix2 n z)
    = Ideal.rsqrt (val_main_v8 (F := Ideal) x0 (ix2 n z)) := by
  unfold val_main_v9
  generalize val_main_v8 (F := Ideal) x0 = y
  pointwise

theorem v8_at (n : Fin 4096) (z : Fin 1) : val_main_v8 (F := Ideal) x0 (ix2 n z)
    = Ideal.div (∑ k : Fin 1024, x0 (ix2 n k) * x0 (ix2 n k)) (Ideal.ofBits .f32 0x44800000#32)
      + Ideal.ofBits .f32 0x358637BD#32 := by
  pointwise [val_main_v8, val_main_v7, val_main_v6, val_main_v5, val_main_v4, val_main_v3, val_main_v2,
    val_main_cst, val_main_cst_0, val_main_cst_1]

theorem v14_at (n : Fin 4096) (k : Fin 1024) :
    val_main_v14 (F := Ideal) x0 (ix2 n k) = x0 (ix2 n k) * val_main_v9 (F := Ideal) x0 (ix2 n 0) := by
  pointwise [val_main_v14, val_main_v13]

theorem v27_at (n : Fin 4096) (k : Fin 1024) :
    val_main_v27 (F := Ideal) x2 x3 x4 x5 x6 x7 x9 (ix2 n k)
      = ∑ j : Fin 2304, val_main_v24 (F := Ideal) x2 x3 x4 x5 x6 x7 (ix2 n j) * x9 (ix2 k j) := by
  unfold val_main_v27
  generalize val_main_v24 (F := Ideal) x2 x3 x4 x5 x6 x7 = z
  pointwise

theorem v25_at (j : Fin 2304) (k : Fin 1024) :
    val_main_v25 (F := Ideal) x0 x2 x3 x4 x5 x6 x7 x8 (ix2 j k)
      = ∑ n : Fin 4096, val_main_v24 (F := Ideal) x2 x3 x4 x5 x6 x7 (ix2 n j)
          * (val_main_v14 (F := Ideal) x0 (ix2 n k) * x8 (ix2 0 k)) := by
  unfold val_main_v25 val_main_v16 val_main_v15
  generalize val_main_v24 (F := Ideal) x2 x3 x4 x5 x6 x7 = z
  generalize val_main_v14 (F := Ideal) x0 = y
  pointwise

theorem v30_at (z : Fin 1) (k : Fin 1024) :
    val_main_v30 (F := Ideal) x0 x2 x3 x4 x5 x6 x7 x9 (ix2 z k)
      = ∑ n : Fin 4096, val_main_v14 (F := Ideal) x0 (ix2 n k) * val_main_v27 (F := Ideal) x2 x3 x4 x5 x6 x7 x9 (ix2 n k) := by
  unfold val_main_v30 val_main_v29 val_main_v28 val_main_cst_3
  generalize val_main_v27 (F := Ideal) x2 x3 x4 x5 x6 x7 x9 = z
  generalize val_main_v14 (F := Ideal) x0 = y
  pointwise

theorem v50_at (z : Fin 1) (j : Fin 288) (k : Fin 1024) :
    val_main_v50 (F := Ideal) x0 x2 x3 x4 x5 x6 x7 x8 (ix3 z j k)
      = val_main_v25 (F := Ideal) x0 x2 x3 x4 x5 x6 x7 x8 (ix2 ⟨j.val, by omega⟩ k) := by
  unfold val_main_v50 val_main_v49 val_main_v48 val_main_v26
  generalize val_main_v25 (F := Ideal) x0 x2 x3 x4 x5 x6 x7 x8 = y
  pointwise

theorem v52_at (j : Fin 2304) (k : Fin 1024) :
    val_main_v52 (F := Ideal) x0 x2 x3 x4 x5 x6 x7 x8 (ix2 j k)
      = val_main_v25 (F := Ideal) x0 x2 x3 x4 x5 x6 x7 x8 (ix2 j k) := by
  unfold val_main_v52 val_main_v51 val_main_v26
  generalize val_main_v25 (F := Ideal) x0 x2 x3 x4 x5 x6 x7 x8 = y
  pointwise

theorem v47_at (n : Fin 4096) (k : Fin 1024) :
    val_main_v47 (F := Ideal) x0 x1 x2 x3 x4 x5 x6 x7 x8 x9 (ix2 n k)
      = x1 (ix2 n k) + val_main_v27 (F := Ideal) x2 x3 x4 x5 x6 x7 x9 (ix2 n k) * x8 (ix2 0 k) * val_main_v9 (F := Ideal) x0 (ix2 n 0)
        + x0 (ix2 n k) * meanGrad (fun k => x0 (ix2 n k)) (fun k => val_main_v27 (F := Ideal) x2 x3 x4 x5 x6 x7 x9 (ix2 n k) * x8 (ix2 0 k))
            (val_main_v9 (F := Ideal) x0 (ix2 n 0)) (val_main_v8 (F := Ideal) x0 (ix2 n 0))
        + meanGrad (fun k => x0 (ix2 n k)) (fun k => val_main_v27 (F := Ideal) x2 x3 x4 x5 x6 x7 x9 (ix2 n k) * x8 (ix2 0 k))
            (val_main_v9 (F := Ideal) x0 (ix2 n 0)) (val_main_v8 (F := Ideal) x0 (ix2 n 0)) * x0 (ix2 n k) := by
  unfold val_main_v47 val_main_v46 val_main_v45 val_main_v44 val_main_v43 val_main_v42 val_main_v41 val_main_v40 val_main_v39
    val_main_v38 val_main_v37 val_main_v36 val_main_v35 val_main_v34 val_main_v33 val_main_v32 val_main_v31
    val_main_v12 val_main_v11 val_main_v10 val_main_cst_2 val_main_cst_4 val_main_cst_5 val_main_cst_6
  generalize val_main_v27 (F := Ideal) x2 x3 x4 x5 x6 x7 x9 = z
  generalize val_main_v9 (F := Ideal) x0 = s
  generalize val_main_v8 (F := Ideal) x0 = v
  pointwise
  simp only [Fin.sum_univ_one, meanGrad]

end Cert.InBack.Ref
-- ==== Proof.In.Last.lean ====
/-
  The two copies of the weight gradient that the last grid point makes: its first 288 rows, kept by the chip, and the
  whole of it cast to bfloat16, in 36 pieces of 64 rows.
-/
module

public import proofs.«01_k».proof.Proof.In.Blocks
public import Idealize.ShloMosaic.Lib.Pipeline.Value
public import Idealize.ShloMosaic.Lib.Tactic
public import Idealize.ShloMosaic.Lib.Pipeline.ValueKit
public import Idealize.ShloMosaic.Lib.ValueIdx
public import Idealize.ShloMosaic.Lib.Pointwise

@[expose] public section

noncomputable section

open Idealize.ShloMosaic Idealize.ShloMosaic.TcCoe Idealize.SL.Sem

namespace Cert.InBack

open Cert.Kernel3Ideal Cert.Kernel3Ideal.Gen Cert.Kernel3Ideal.Value

variable {F : FTy → Type} [FloatOps F]
variable (m : (ℓ : Loc nD τ sig) → Buf (Elt F) ℓ)

/-- Where an entry of the chip's own rows lies in the running weight gradient. -/
def ownIdx (j : S1x288x1024.Idx) : S2304x1024.Idx :=
  ix2 (⟨(j 1).val, Nat.lt_of_lt_of_le (show (j 1).val < 288 from (j 1).isLt) (by decide)⟩ : Fin 2304) (j 2 : Fin 1024)

/-- The own rows are written as one block with a unit axis in front. -/
theorem pay5_apply (v : Vec F S288x1024 .f32) (j : S1x288x1024.Idx) :
    k0_pay5 v j = v (fun a => j a.succ) := by
  unfold k0_pay5
  exact shapeCast_addUnit_apply _ v _ j

/-- The own rows are the first rows of the array they are loaded from. -/
theorem ld_own (X : Vec F S2304x1024 .f32) (j : S1x288x1024.Idx) :
    View.ld X (Rect.unit ![0, 0] ![288, 1024] inb_S2304x1024_S288x1024_0_0) (fun a => j a.succ) = X (ownIdx j) :=
  View.ld_unit_apply_of X _ _ _ _ (ownIdx j) fun a => match a with
    | ⟨0, _⟩ => (Nat.zero_add _).symm
    | ⟨1, _⟩ => (Nat.zero_add _).symm

/-- At the last point the chip's own rows of the weight gradient are copied out of the running one. -/
theorem own_C (c : Dev nD) (t : Fin cfg0.N) (h0 : ¬t.val % 8 = 0) (h1 : t.val % 8 = 7) (j : S1x288x1024.Idx) :
    (outsAt0 m c t.val t.isLt).2.1 j = (outsAt0 m c t.val t.isLt).2.2.2.2 (ownIdx j) := by
  rw [(outs_C m c t h0 h1).2.2, outsAt0_C m c t h0 h1]
  dsimp only
  unfold out0_C_11
  refine (congrFun (View.read_writes_eq_canon _ _ _ (fun y => cover0_C_11 ..)) j).trans ?_
  unfold kernelRun0_C
  dsimp only
  sl_unfold_words
  rw [View.canon_unit_zero hz3, pay5_apply]
  rw [View.readCov_eq_canon_ld _ _ _ (fun y => ⟨_, List.mem_singleton_self _, View.mem_set_unit_zero hz2 inb_S2304x1024_S2304x1024_0_0 y⟩),
    View.canon_unit_zero hz2]
  refine (ld_own _ j).trans ?_
  simp only [View.readAt_eq_ld, (hs0_0 t).read_unread, (hs0_2 t).read_unread, (hs0_3 t).read_unread,
    (hs0_4 t).read_unread, (hs0_5 t).read_unread, (hs0_6 t).read_unread, (hs0_7 t).read_unread,
    (hs0_8 t).read_unread, (Memref.isWhole_whole cc0_scratch0).read_unread,
    View.ld_unit_zero (S := S512x1024) hz2, View.ld_unit_zero (S := S512x512) hz2, View.ld_unit_zero (S := S512x128) hz2,
    View.ld_unit_zero (S := S1x1024) hz2, View.ld_unit_zero (S := S2304x1024) hz2]
  rfl

/-- The cast of one piece. -/
theorem pay4_apply (v : Vec F S64x1024 .f32) (x : S64x1024.Idx) :
    k0_pay4 v x = FloatOps.truncf .bf16 bitsLt_bf16_f32 (v x) := rfl

/-- What the pieces of the exchanged copy hold, whatever the running weight gradient's buffer holds. -/
theorem pieces_cast (c : Dev nD) (t : Fin cfg0.N) (hc : k0_cond2 (grid0.coords t) = 1#1)
    (X : BufTy.Contents (Elt F) scM0_0.view.ty) : ∀ k : Nat, k ≤ k0_t1_loop.trips →
    ∀ p ∈ pb_k0_t1 (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole cc0_scratch0) hc X k,
    ∀ x : p.1.shape.Idx, p.2 x = FloatOps.truncf .bf16 bitsLt_bf16_f32 (scM0_0.view.read (Elt F) X (p.1.emb x)) := by
  intro k
  induction k with
  | zero => intro _ p hp; exact absurd hp List.not_mem_nil
  | succ k ih =>
    intro hk p hp
    rw [pb_k0_t1_succ (F := F) (k := ⟨k, hk⟩)] at hp
    rcases List.mem_append.1 hp with hp | hp
    · unfold tripL_k0_t1 trip_k0_t1 at hp
      obtain rfl := List.mem_singleton.1 hp
      exact fun x => rfl
    · exact ih (by omega) p hp

/-- At the last point the running weight gradient is cast into the copy that is exchanged. -/
theorem cast_C (c : Dev nD) (t : Fin cfg0.N) (h0 : ¬t.val % 8 = 0) (h1 : t.val % 8 = 7) (j : S2304x1024.Idx) :
    (outsAt0 m c t.val t.isLt).2.2.2.1 j
      = FloatOps.truncf .bf16 bitsLt_bf16_f32 ((outsAt0 m c t.val t.isLt).2.2.2.2 j) := by
  rw [(outs_C m c t h0 h1).2.2, outsAt0_C m c t h0 h1]
  dsimp only
  unfold out0_C_13
  refine (congrFun (View.read_writes_eq_canon _ _ _ (fun y => cover0_C_13 ..)) j).trans ?_
  refine View.canon_apply_of_pieces (fun i => FloatOps.truncf .bf16 bitsLt_bf16_f32 ((dwBlk (iblk m c 0 t) (iblk m c 2 t) (iblk m c 3 t) (iblk m c 4 t) (iblk m c 5 t) (iblk m c 6 t) (iblk m c 7 t) (iblk m c 8 t) (outsAt0 m c (t.val - 1) (by have := t.isLt; omega)).2.2.2.2) i)) _ ?_ j (cover0_C_13 ..)
  unfold kernelRun0_C
  dsimp only
  intro p hp x
  refine (pieces_cast c t _ _ _ le_rfl p hp x).trans ?_
  refine congrArg _ (congrFun (?_ : _ = _) (p.1.emb x))
  refine (View.read_writes_junk_eq_canon _ _).trans ?_
  sl_unfold_words
  rw [View.canon_unit_zero hz2]
  simp only [View.readAt_eq_ld, (hs0_0 t).read_unread, (hs0_2 t).read_unread, (hs0_3 t).read_unread,
    (hs0_4 t).read_unread, (hs0_5 t).read_unread, (hs0_6 t).read_unread, (hs0_7 t).read_unread,
    (hs0_8 t).read_unread, (Memref.isWhole_whole cc0_scratch0).read_unread,
    View.ld_unit_zero (S := S512x1024) hz2, View.ld_unit_zero (S := S512x512) hz2, View.ld_unit_zero (S := S512x128) hz2,
    View.ld_unit_zero (S := S1x1024) hz2, View.ld_unit_zero (S := S2304x1024) hz2]
  rfl

end Cert.InBack
-- ==== Proof.In.Fold.lean ====
/-
  The running gradients of the input projection's backward pass, summed over the points: after point n each holds the
  sum over the first 512·(n + 1) rows, and after the last the sum over all rows, which is what the reference's one
  product and one column sum hold.
-/
module

public import proofs.«01_k».proof.Proof.In.Reads
public import proofs.«01_k».proof.Proof.In.Point
public import proofs.«01_k».proof.Proof.In.Ref
public import proofs.«01_k».proof.Proof.In.Last

@[expose] public section

noncomputable section

open Idealize.ShloMosaic Idealize.ShloMosaic.TcCoe Idealize.SL.Sem

namespace Cert.InBack

open Cert.Kernel3Ideal Cert.Kernel3Ideal.Gen Cert.Kernel3Ideal.Value Cert.Reference3Ideal.Read

variable (m : (ℓ : Loc nD τ sig) → Buf (Elt Ideal) ℓ)

/-- The arrays that the program is given. -/
abbrev A0 (c : Dev nD) : Vec Ideal S4096x1024 .f32 := m ((c : Thread nD τ).loc main_arg0)
abbrev A1 (c : Dev nD) : Vec Ideal S4096x1024 .f32 := m ((c : Thread nD τ).loc main_arg1)
abbrev A2 (c : Dev nD) : Vec Ideal S4096x512 .f32 := m ((c : Thread nD τ).loc main_arg2)
abbrev A3 (c : Dev nD) : Vec Ideal S4096x512 .bf16 := m ((c : Thread nD τ).loc main_arg3)
abbrev A4 (c : Dev nD) : Vec Ideal S4096x512 .f32 := m ((c : Thread nD τ).loc main_arg4)
abbrev A5 (c : Dev nD) : Vec Ideal S4096x128 .f32 := m ((c : Thread nD τ).loc main_arg5)
abbrev A6 (c : Dev nD) : Vec Ideal S4096x128 .f32 := m ((c : Thread nD τ).loc main_arg6)
abbrev A7 (c : Dev nD) : Vec Ideal S4096x512 .bf16 := m ((c : Thread nD τ).loc main_arg7)
abbrev A8 (c : Dev nD) : Vec Ideal S1x1024 .f32 := m ((c : Thread nD τ).loc main_arg8)
abbrev A9 (c : Dev nD) : Vec Ideal S1024x2304 .f32 := m ((c : Thread nD τ).loc main_arg9)

/-- The gradient of the projection's output, its normed input, and the gradient of the scaled normed input. -/
abbrev Z (c : Dev nD) : Vec Ideal Cert.Reference3Ideal.S4096x2304 .bf16 :=
  val_main_v24 (F := Ideal) (A2 m c) (A3 m c) (A4 m c) (A5 m c) (A6 m c) (A7 m c)
abbrev Xn (c : Dev nD) : Vec Ideal S4096x1024 .f32 := val_main_v14 (F := Ideal) (A0 m c)
abbrev Dz (c : Dev nD) : Vec Ideal S4096x1024 .f32 :=
  val_main_v27 (F := Ideal) (A2 m c) (A3 m c) (A4 m c) (A5 m c) (A6 m c) (A7 m c) (A9 m c)

theorem z_row (c : Dev nD) (t : Fin cfg0.N) (r : Fin 512) (j : Fin 2304) :
    k0_pay11 (F := Ideal) (iblk m c 2 t) (iblk m c 3 t) (iblk m c 4 t) (iblk m c 5 t) (iblk m c 6 t) (iblk m c 7 t) (ix2 r j)
      = Z m c (ix2 (row t r) j) :=
  pay11_at _ _ _ _ _ _ (A2 m c) (A3 m c) (A4 m c) (A5 m c) (A6 m c) (A7 m c) r (row t r)
    (read2 m c t r) (read3 m c t r) (read4 m c t r) (read5 m c t r) (read6 m c t r) (read7 m c t r) j

theorem scale_row (c : Dev nD) (t : Fin cfg0.N) (r : Fin 512) :
    k0_pay8 (F := Ideal) (iblk m c 0 t) (ix2 r 0) = val_main_v9 (F := Ideal) (A0 m c) (ix2 (row t r) 0) := by
  rw [pay8_at, Ref.v9_at, Ref.v8_at]
  simp only [read0]

theorem xn_row (c : Dev nD) (t : Fin cfg0.N) (r : Fin 512) (k : Fin 1024) :
    k0_pay9 (F := Ideal) (iblk m c 0 t) (ix2 r k) = Xn m c (ix2 (row t r) k) := by
  rw [pay9_at, scale_row, read0]
  exact (Ref.v14_at (A0 m c) (row t r) k).symm

theorem dz_row (c : Dev nD) (t : Fin cfg0.N) (r : Fin 512) (k : Fin 1024) :
    k0_pay12 (F := Ideal) (iblk m c 2 t) (iblk m c 3 t) (iblk m c 4 t) (iblk m c 5 t) (iblk m c 6 t) (iblk m c 7 t) (iblk m c 9 t) (ix2 r k)
      = Dz m c (ix2 (row t r) k) := by
  rw [pay12_at]
  refine Eq.trans ?_ (Ref.v27_at (A2 m c) (A3 m c) (A4 m c) (A5 m c) (A6 m c) (A7 m c) (A9 m c) (row t r) k).symm
  exact Finset.sum_congr rfl fun j _ => by rw [z_row, read9]

/-- What row `n` adds to the weight gradient's entry and to the scale gradient's entry. -/
def dwTerm (c : Dev nD) (j : Fin 2304) (k : Fin 1024) (n : Fin 4096) : EReal :=
  Z m c (ix2 n j) * (Xn m c (ix2 n k) * A8 m c (ix2 0 k))
def dgTerm (c : Dev nD) (k : Fin 1024) (n : Fin 4096) : EReal := Xn m c (ix2 n k) * Dz m c (ix2 n k)

theorem dw_point (c : Dev nD) (t : Fin cfg0.N) (acc : Vec Ideal S2304x1024 .f32) (j : Fin 2304) (k : Fin 1024) :
    dwBlk (iblk m c 0 t) (iblk m c 2 t) (iblk m c 3 t) (iblk m c 4 t) (iblk m c 5 t) (iblk m c 6 t) (iblk m c 7 t) (iblk m c 8 t) acc (ix2 j k)
      = acc (ix2 j k) + ∑ r : Fin 512, dwTerm m c j k (row t r) := by
  unfold dwBlk
  rw [pay2_at]
  refine congrArg (acc (ix2 j k) + ·) ?_
  exact Finset.sum_congr rfl fun r _ => by rw [z_row, pay10_at, xn_row, read8, dwTerm]

theorem dg_point (c : Dev nD) (t : Fin cfg0.N) (acc : Vec Ideal S1x1024 .f32) (k : Fin 1024) :
    dgBlk (iblk m c 0 t) (iblk m c 2 t) (iblk m c 3 t) (iblk m c 4 t) (iblk m c 5 t) (iblk m c 6 t) (iblk m c 7 t) (iblk m c 9 t) acc (ix2 0 k)
      = acc (ix2 0 k) + ∑ r : Fin 512, dgTerm m c k (row t r) := by
  unfold dgBlk
  rw [pay3_at]
  refine congrArg (acc (ix2 0 k) + ·) ?_
  exact Finset.sum_congr rfl fun r _ => by rw [dz_row, xn_row, dgTerm, mul_comm]

/-- A function of the rows, continued by zero. -/
def ext (f : Fin 4096 → EReal) (i : ℕ) : EReal := if h : i < 4096 then f ⟨i, h⟩ else 0

theorem ext_all (f : Fin 4096 → EReal) : ∑ i ∈ Finset.range (512 * (7 + 1)), ext f i = ∑ n, f n := by
  rw [show 512 * (7 + 1) = 4096 from rfl]
  rw [Finset.sum_range]
  exact Finset.sum_congr rfl fun n _ => by simp [ext]

theorem ext_step (f : Fin 4096 → EReal) (t : Fin cfg0.N) :
    ∑ i ∈ Finset.range (512 * t.val), ext f i + ∑ r : Fin 512, f (row t r) = ∑ i ∈ Finset.range (512 * (t.val + 1)), ext f i := by
  rw [Nat.mul_add, mul_one, Finset.sum_range_add]
  congr 1
  rw [Finset.sum_range]
  refine Finset.sum_congr rfl fun r _ => ?_
  have h : t.val < 8 := lt_of_lt_of_eq t.isLt N_0
  rw [ext, dif_pos (by omega)]
  rfl

/-- After each point both running gradients hold the sums over the rows seen. -/
theorem sums (c : Dev nD) (n : ℕ) : ∀ h : n < cfg0.N,
    (∀ k, (outsAt0 m c n h).2.2.1 (ix2 0 k) = ∑ i ∈ Finset.range (512 * (n + 1)), ext (dgTerm m c k) i)
    ∧ (∀ j k, (outsAt0 m c n h).2.2.2.2 (ix2 j k) = ∑ i ∈ Finset.range (512 * (n + 1)), ext (dwTerm m c j k) i) := by
  induction n with
  | zero =>
    intro h
    have H := outs_A m c ⟨0, h⟩ (by show 0 % 8 = 0; rfl) (by show ¬0 % 8 = 7; decide)
    refine ⟨fun k => ?_, fun j k => ?_⟩
    · rw [H.2.1, dg_point, pay7_at, ← ext_step _ ⟨0, h⟩]; simp
    · rw [H.2.2, dw_point, pay6_at, ← ext_step _ ⟨0, h⟩]; simp
  | succ n ih =>
    intro h
    have hN : n + 1 < 8 := lt_of_lt_of_eq h N_0
    have I := ih (by omega)
    by_cases h7 : n + 1 = 7
    · have H := outs_C m c ⟨n + 1, h⟩ (by show ¬(n + 1) % 8 = 0; omega) (by show (n + 1) % 8 = 7; omega)
      refine ⟨fun k => ?_, fun j k => ?_⟩
      · rw [H.2.1, dg_point, ← ext_step _ ⟨n + 1, h⟩]; exact congrArg (· + _) (I.1 k)
      · rw [H.2.2, dw_point, ← ext_step _ ⟨n + 1, h⟩]; exact congrArg (· + _) (I.2 j k)
    · have H := outs_B m c ⟨n + 1, h⟩ (by show ¬(n + 1) % 8 = 0; omega) (by show ¬(n + 1) % 8 = 7; omega)
      refine ⟨fun k => ?_, fun j k => ?_⟩
      · rw [H.2.1, dg_point, ← ext_step _ ⟨n + 1, h⟩]; exact congrArg (· + _) (I.1 k)
      · rw [H.2.2, dw_point, ← ext_step _ ⟨n + 1, h⟩]; exact congrArg (· + _) (I.2 j k)

/-- The last point. -/
def last : Fin cfg0.N := ⟨7, lt_of_lt_of_eq (by decide) N_0.symm⟩

/-- The weight gradient, whole, after the last point. -/
theorem dw_all (c : Dev nD) (j : Fin 2304) (k : Fin 1024) :
    (outsAt0 m c 7 last.isLt).2.2.2.2 (ix2 j k)
      = val_main_v25 (F := Ideal) (A0 m c) (A2 m c) (A3 m c) (A4 m c) (A5 m c) (A6 m c) (A7 m c) (A8 m c) (ix2 j k) := by
  rw [(sums m c 7 last.isLt).2 j k, Ref.v25_at]
  exact ext_all _

/-- The third result: the gradient of the norm's scale. -/
theorem result_dg (c : Dev nD) : G12 m c
    = val_main_v30 (F := Ideal) (A0 m c) (A2 m c) (A3 m c) (A4 m c) (A5 m c) (A6 m c) (A7 m c) (A9 m c) := by
  rw [G12_last, ← outsAt0_sweep m c 7 last.isLt]
  funext i
  obtain ⟨z, k, rfl⟩ : ∃ (z : Fin 1) (k : Fin 1024), i = ix2 z k := ⟨i 0, i 1, eq_ix2 i⟩
  obtain rfl : z = 0 := Subsingleton.elim _ _
  rw [Ref.v30_at]
  exact ((sums m c 7 last.isLt).1 k).trans (ext_all (dgTerm m c k))

/-- The second result: the rows of the weight gradient that the device owns. -/
theorem result_own (c : Dev nD) : G11 m c
    = val_main_v50 (F := Ideal) (A0 m c) (A2 m c) (A3 m c) (A4 m c) (A5 m c) (A6 m c) (A7 m c) (A8 m c) := by
  rw [G11_last, ← outsAt0_sweep m c 7 last.isLt]
  funext i
  refine (own_C m c last (by decide) (by decide) i).trans ?_
  refine (dw_all m c _ _).trans ?_
  idx_vars i
  rw [Ref.v50_at]

/-- The fourth result: the whole weight gradient, cast. -/
theorem result_cast (c : Dev nD) : G13 m c
    = val_main_v52 (F := Ideal) (A0 m c) (A2 m c) (A3 m c) (A4 m c) (A5 m c) (A6 m c) (A7 m c) (A8 m c) := by
  rw [G13_last, ← outsAt0_sweep m c 7 last.isLt]
  funext i
  idx_vars i
  refine (cast_C m c last (by decide) (by decide) _).trans ?_
  rw [Ref.v52_at, ← dw_all]
  rfl

end Cert.InBack
-- ==== Proof.In.Identity.lean ====
/-
  The real identity behind the gradient of a root-mean-square norm: the kernel subtracts from the gradient of the normed
  row its projection onto that row and scales once; the derivative of the written formula sends a gradient through the mean
  square. On finite rows the two are one.
-/
module

public import proofs.«01_k».proof.Proof.In.Ref
public import Idealize.ShloMosaic.PureOps.Ideal
public import Mathlib.Tactic.FieldSimp
public import Mathlib.Tactic.Ring

@[expose] public section

noncomputable section

open Idealize.ShloMosaic

namespace Cert.InBack

/-- A number that is not infinite. -/
def Fin' (x : EReal) : Prop := ∃ r : ℝ, x = (r : EReal)

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem Fin'.mul {x y : EReal} (hx : Fin' x) (hy : Fin' y) : Fin' (x * y) := by
  obtain ⟨a, rfl⟩ := hx; obtain ⟨b, rfl⟩ := hy; exact ⟨a * b, (EReal.coe_mul a b).symm⟩

theorem Fin'.sum {ι : Type} {s : Finset ι} {f : ι → EReal} (h : ∀ i, Fin' (f i)) : Fin' (∑ i ∈ s, f i) := by
  choose g hg using h
  exact ⟨∑ i ∈ s, g i, by rw [← coe_sum]; exact Finset.sum_congr rfl fun i _ => hg i⟩

/-- The constants: the row's length, the norm's ε, one half. -/
theorem lit_len : Ideal.ofBits .f32 0x44800000#32 = ((1024 : ℝ) : EReal) := by
  simp [Ideal.ofBits, Ideal.ieee]; rw [← EReal.coe_mul]; norm_num
theorem lit_half : Ideal.ofBits .f32 0xBF000000#32 = ((-1/2 : ℝ) : EReal) := by
  simp [Ideal.ofBits, Ideal.ieee]; rw [← EReal.coe_mul]; norm_num
theorem lit_eps : ∃ e : ℝ, 0 < e ∧ Ideal.ofBits .f32 0x358637BD#32 = (e : EReal) := by
  refine ⟨8796093 / 2 ^ 43, by positivity, ?_⟩
  simp [Ideal.ofBits, Ideal.ieee]; rw [← EReal.coe_mul]; norm_num

/-- The gradient of one row. -/
theorem row_grad (x y : Fin 1024 → EReal) (d : EReal) (hx : ∀ k, Fin' (x k)) (hy : ∀ k, Fin' (y k)) (v s : EReal)
    (hv : v = Ideal.div (∑ k, x k * x k) (Ideal.ofBits .f32 0x44800000#32) + Ideal.ofBits .f32 0x358637BD#32)
    (hs : s = Ideal.rsqrt v) (k : Fin 1024) :
    d + s * (y k - x k * s * Ideal.div (∑ l, y l * (x l * s)) (Ideal.ofBits .f32 0x44800000#32))
      = d + y k * s + x k * Ref.meanGrad x y s v + Ref.meanGrad x y s v * x k := by
  choose X hX using hx
  choose Y hY using hy
  obtain ⟨e, he, hle⟩ := lit_eps
  obtain rfl : x = fun k => (X k : EReal) := funext hX
  obtain rfl : y = fun k => (Y k : EReal) := funext hY
  have hv' : v = (((∑ k, X k * X k) / 1024 + e : ℝ) : EReal) := by
    rw [hv, hle, lit_len]
    simp only [← EReal.coe_mul, coe_sum]
    rw [Ideal.div_coe (by norm_num), ← EReal.coe_mul, ← EReal.coe_add, mul_one_div]
  have hpos : 0 < (∑ k, X k * X k) / 1024 + e :=
    add_pos_of_nonneg_of_pos (div_nonneg (Finset.sum_nonneg fun i _ => mul_self_nonneg _) (by norm_num)) he
  generalize (∑ k, X k * X k) / 1024 + e = V at hv' hpos
  subst hv'
  have hs' : s = ((1 / Real.sqrt V : ℝ) : EReal) := by
    rw [hs, Ideal.rsqrt_coe, if_neg hpos.not_gt, if_neg hpos.ne', one_div]
  have hsq : (1 / Real.sqrt V) * (1 / Real.sqrt V) = 1 / V := by
    rw [div_mul_div_comm, Real.mul_self_sqrt hpos.le, one_mul]
  generalize 1 / Real.sqrt V = S at hs' hsq
  subst hs'
  unfold Ref.meanGrad
  rw [lit_len, lit_half]
  simp only [← EReal.coe_mul, coe_sum]
  rw [Ideal.div_coe (by norm_num), Ideal.div_coe hpos.ne']
  simp only [← EReal.coe_mul]
  rw [Ideal.div_coe (by norm_num)]
  simp only [← EReal.coe_mul, ← EReal.coe_sub, add_assoc, ← EReal.coe_add]
  congr 2
  have h1 : ∑ l, Y l * (X l * S) = (∑ l, X l * Y l) * S := by
    rw [Finset.sum_mul]; exact Finset.sum_congr rfl fun l _ => by ring
  rw [h1, ← hsq]
  ring

end Cert.InBack
-- ==== Proof.Finite.lean ====
/-
  What the preconditions say of an entry: it is a real number, not an infinity.
-/
module

public import proofs.«01_k».proof.Proof.In.Identity
public import Idealize.ShloMosaic.Lib.Pointwise

@[expose] public section

noncomputable section

open Idealize.ShloMosaic

namespace Cert.InBack

theorem fin_of_lt {x : EReal} (h : max x (-x) < ⊤) : Fin' x := by
  induction x using EReal.rec with
  | bot => simp at h
  | top => simp at h
  | coe r => exact ⟨r, rfl⟩

theorem lit_top : Ideal.ofBits .f32 0x7F800000#32 = (⊤ : EReal) := by
  simp [Ideal.ofBits, Ideal.ieee]

/-- An array whose absolute values all compare below +∞ has real entries. -/
theorem fin_of_all {S : Shape} (d : Fin (⟨0, ![]⟩ : Shape).rank → Fin S.rank) (hd) (x : FVec Ideal S .f32)
    (h : cmpf .olt (Host.absf x) (broadcastInDim S d hd (constant ⟨0, ![]⟩ .f32 0x7F800000#32)) = fun _ => 1#1) (i : S.Idx) :
    Fin' (x i) := by
  have e := congrFun h i
  refine fin_of_lt ?_
  rw [← lit_top]
  by_contra hn
  have : cmpf .olt (Host.absf x) (broadcastInDim S d hd (constant ⟨0, ![]⟩ .f32 0x7F800000#32)) i = 0#1 := by
    simp only [cmpf, Host.absf, broadcastInDim, constant]
    show Ideal.cmp .olt (max (x i) (-x i)) (Ideal.ofBits .f32 0x7F800000#32) = 0#1
    simp [Ideal.cmp, hn]
  rw [this] at e
  exact absurd e (by decide)

end Cert.InBack
-- ==== Proof.In.Result.lean ====
/-
  The claim about the input projection's backward pass: on real arrays the kernel and the derivative of the reference's
  forward lines return the same four arrays.
-/
module

public import proofs.«01_k».proof.Defs
public import proofs.«01_k».proof.Proof.Gen.Pre_finite3
public import proofs.«01_k».proof.Proof.Gen.Reference3Ideal.Run
public import proofs.«01_k».proof.Proof.In.Fold
public import proofs.«01_k».proof.Proof.Finite

@[expose] public section

noncomputable section

open Idealize.ShloMosaic Idealize.ShloMosaic.TcCoe Idealize.SL.Sem

namespace Cert.InBack

open Cert.Kernel3Ideal Cert.Kernel3Ideal.Gen Cert.Kernel3Ideal.Value Cert.Reference3Ideal.Read

variable (m : (ℓ : Loc nD τ sig) → Buf (Elt Ideal) ℓ)

/-- Every entry that the residual stream's gradient depends on is a real number. -/
structure Real3 (c : Dev nD) : Prop where
  h0 : ∀ i, Fin' (A0 m c i)
  h2 : ∀ i, Fin' (A2 m c i)
  h3 : ∀ i, Fin' (A3 m c i)
  h4 : ∀ i, Fin' (A4 m c i)
  h5 : ∀ i, Fin' (A5 m c i)
  h6 : ∀ i, Fin' (A6 m c i)
  h7 : ∀ i, Fin' (A7 m c i)
  h8 : ∀ i, Fin' (A8 m c i)
  h9 : ∀ i, Fin' (A9 m c i)

theorem real_of_pre (h : Cert.Pre_Kernel3Ideal_finite3 (hPre_finite3 := Cert.Pre_finite3.Gen.facts) m) (c : Dev nD) : Real3 m c := by
  obtain ⟨h0, h2, h3, h4, h5, h6, h7, h8, h9⟩ := h c
  exact ⟨fin_of_all _ _ _ h0, fin_of_all _ _ _ h2, fin_of_all _ _ _ h3, fin_of_all _ _ _ h4, fin_of_all _ _ _ h5,
    fin_of_all _ _ _ h6, fin_of_all _ _ _ h7, fin_of_all _ _ _ h8, fin_of_all _ _ _ h9⟩

theorem z_real {c : Dev nD} (h : Real3 m c) (n : Fin 4096) (j : Fin 2304) : Fin' (Z m c (ix2 n j)) := by
  obtain ⟨-, h2, h3, h4, h5, h6, h7, -, -⟩ := h
  unfold Z
  generalize A2 m c = x2 at *
  generalize A3 m c = x3 at *
  generalize A4 m c = x4 at *
  generalize A5 m c = x5 at *
  generalize A6 m c = x6 at *
  generalize A7 m c = x7 at *
  pointwise [val_main_v24, val_main_v0, val_main_v1]
  split_ifs <;> first | exact h2 _ | exact h3 _ | exact h4 _ | exact h5 _ | exact h6 _ | exact h7 _

theorem dz_real {c : Dev nD} (h : Real3 m c) (n : Fin 4096) (k : Fin 1024) : Fin' (Dz m c (ix2 n k)) := by
  unfold Dz
  rw [Ref.v27_at]
  exact Fin'.sum fun j => (z_real m h n j).mul (h.h9 _)

/-- Point `t`'s block of the first result, at a row of it. -/
theorem gx_row {c : Dev nD} (h : Real3 m c) (t : Fin cfg0.N) (r : Fin 512) (k : Fin 1024) :
    gxBlk (iblk m c 0 t) (iblk m c 1 t) (iblk m c 2 t) (iblk m c 3 t) (iblk m c 4 t) (iblk m c 5 t) (iblk m c 6 t) (iblk m c 7 t) (iblk m c 8 t) (iblk m c 9 t) (ix2 r k)
      = val_main_v47 (F := Ideal) (A0 m c) (A1 m c) (A2 m c) (A3 m c) (A4 m c) (A5 m c) (A6 m c) (A7 m c) (A8 m c) (A9 m c) (ix2 (row t r) k) := by
  unfold gxBlk
  rw [pay1_at, Ref.v47_at]
  simp only [pay13_at, dz_row, xn_row, scale_row, read1, read8, Xn, Ref.v14_at]
  exact row_grad (fun k => A0 m c (ix2 (row t r) k)) (fun k => Dz m c (ix2 (row t r) k) * A8 m c (ix2 0 k)) _
    (fun k => h.h0 _) (fun k => (dz_real m h _ k).mul (h.h8 _)) _ _ (Ref.v8_at (A0 m c) (row t r) 0) (Ref.v9_at (A0 m c) (row t r) 0) k

theorem outs_gx (c : Dev nD) (t : Fin cfg0.N) : (outsAt0 m c t.val t.isLt).1
    = gxBlk (iblk m c 0 t) (iblk m c 1 t) (iblk m c 2 t) (iblk m c 3 t) (iblk m c 4 t) (iblk m c 5 t) (iblk m c 6 t) (iblk m c 7 t) (iblk m c 8 t) (iblk m c 9 t) := by
  by_cases h0 : t.val % 8 = 0
  · exact (outs_A m c t h0 (by omega)).1
  · by_cases h1 : t.val % 8 = 7
    · exact (outs_C m c t h0 h1).1
    · exact (outs_B m c t h0 h1).1

/-- The first result: the gradient of the residual stream. -/
theorem result_gx {c : Dev nD} (h : Real3 m c) : G10 m c
    = val_main_v47 (F := Ideal) (A0 m c) (A1 m c) (A2 m c) (A3 m c) (A4 m c) (A5 m c) (A6 m c) (A7 m c) (A8 m c) (A9 m c) := by
  funext i
  obtain ⟨n, k, rfl⟩ : ∃ (n : Fin 4096) (k : Fin 1024), i = ix2 n k := ⟨i 0, i 1, eq_ix2 i⟩
  have hn : n.val / 512 < cfg0.N := lt_of_lt_of_eq (by omega) N_0.symm
  have hp : pt10Of (ix2 n k) = n.val / 512 := by
    show 1 * (n.val / 512 - 0) + 1 * (k.val / 1024 - 0) = n.val / 512
    omega
  have hl : loc10Of (ix2 n k) = ix2 ⟨n.val % 512, Nat.mod_lt _ (by decide)⟩ k := by
    funext a; apply Fin.ext
    match a with
    | ⟨0, _⟩ => rfl
    | ⟨1, _⟩ => exact Nat.mod_eq_of_lt k.isLt
  unfold G10
  rw [dif_pos (by rw [hp]; exact hn), hl, fold0_congr m c _ _ _ _ hp, ← outsAt0_sweep m c _ hn, outs_gx m c ⟨n.val / 512, hn⟩, gx_row m h]
  · congr 2
    apply Fin.ext
    show 512 * (n.val / 512) + n.val % 512 = n.val
    omega
  · rw [Nat.zero_add]; exact hn

end Cert.InBack
-- ==== Proof.In.Claim.lean ====
/-
  The claim about the input projection's backward pass, put together: the kernel's run and the reference's run, and the
  four results that they share.
-/
module

public import proofs.«01_k».proof.Proof.In.Result

@[expose] public section

noncomputable section

open Idealize.ShloMosaic Idealize.ShloMosaic.TcCoe Idealize.SL.Sem

namespace Cert.InBack

open Cert.Kernel3Ideal Cert.Kernel3Ideal.Gen Cert.Kernel3Ideal.Value Cert.Reference3Ideal.Read

theorem algebraic : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hpre hargs
  refine ⟨fun c => G10 m c, fun c => G11 m c, fun c => G12 m c, fun c => G13 m c, run m g,
    (θ_run Cert.Reference3Ideal.defs _ _).mono (fun r h c => ?_) (Cert.Reference3Ideal.Value.run (F := Ideal) m' g')⟩
  have hr := h c
  obtain ⟨e0, e1, e2, e3, e4, e5, e6, e7, e8, e9⟩ := hargs c
  refine ⟨hr.1.trans ?_, hr.2.1.trans ?_, hr.2.2.1.trans ?_, hr.2.2.2.1.trans ?_, hr.2.2.2.2⟩
  · refine (val_main_v47_eq m' c).trans (Eq.trans ?_ (result_gx m (real_of_pre m hpre c)).symm)
    rw [e0, e1, e2, e3, e4, e5, e6, e7, e8, e9]
  · refine (val_main_v50_eq _ _ _ _ _ _ _ _).trans (Eq.trans ?_ (result_own m c).symm)
    rw [e0, e2, e3, e4, e5, e6, e7, e8]
  · refine (val_main_v30_eq _ _ _ _ _ _ _ _).trans (Eq.trans ?_ (result_dg m c).symm)
    rw [e0, e2, e3, e4, e5, e6, e7, e9]
  · refine (val_main_v52_eq _ _ _ _ _ _ _ _).trans (Eq.trans ?_ (result_cast m c).symm)
    rw [e0, e2, e3, e4, e5, e6, e7, e8]

end Cert.InBack
-- ==== Proof.Proj.Block.lean ====
/-
  The forward input projection, one block of rows at a time: what the windows bring in, the product that a grid point
  forms of it, and the six result arrays as column ranges of the same product.
-/
module

public import proofs.«01_k».proof.Proof.Gen.Kernel4Ideal.Value
public import Idealize.ShloMosaic.Lib.Pointwise
public import Idealize.ShloMosaic.Lib.StableHlo.ReadAt

@[expose] public section

noncomputable section

open Idealize.ShloMosaic Idealize.ShloMosaic.TcCoe Idealize.SL.Sem

namespace Cert.InProj

open Cert.Kernel4Ideal Cert.Kernel4Ideal.Gen Cert.Kernel4Ideal.Value

variable (m : (ℓ : Loc nD τ sig) → Buf (Elt Ideal) ℓ)

theorem hz2 : (![0, 0] : Fin 2 → Nat) = fun _ => 0 := funext fun a => by fin_cases a <;> rfl

/-- The row of the whole array that row `r` of point `t`'s block is. -/
def row (t : Fin cfg0.N) (r : Fin 512) : Fin 4096 :=
  ⟨512 * t.val + r.val, by have h : t.val < 8 := lt_of_lt_of_eq t.isLt N_0; omega⟩

/-- Every row of the whole array lies in one point's block. -/
theorem exists_row (n : Fin 4096) : ∃ t r, n = row t r :=
  ⟨⟨n.val / 512, lt_of_lt_of_eq (by omega : n.val / 512 < 8) N_0.symm⟩, ⟨n.val % 512, by omega⟩, Fin.ext (by show n.val = 512 * (n.val / 512) + n.val % 512; omega)⟩

/-- The windows by rows stand at block `t`, and the scale and the weight at their only block. -/
theorem index_all (t : Fin cfg0.N) :
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0) := by
  revert t; decide +kernel

theorem read0 (c : Dev nD) (t : Fin cfg0.N) (r : Fin 512) (k : Fin 1024) :
    iblk m c 0 t (ix2 r k) = m ((c : Thread nD τ).loc main_arg0) (ix2 (row t r) k) := by
  unfold iblk
  rw [View.read_apply]
  show V m c main_arg0 _ = m (c.tc.loc main_arg0) _
  rw [V_main_arg0]
  have hi := (index_all t).1
  congr 1
  funext a
  apply Fin.ext
  match a with
  | ⟨0, _⟩ => show win0_0.index t 0 * 512 + 1 * r.val = 512 * t.val + r.val; rw [hi.1]; omega
  | ⟨1, _⟩ => show win0_0.index t 1 * 1024 + 1 * k.val = k.val; rw [hi.2]; omega

theorem read1 (c : Dev nD) (t : Fin cfg0.N) (k : Fin 1024) :
    iblk m c 1 t (ix2 0 k) = m ((c : Thread nD τ).loc main_arg1) (ix2 0 k) := by
  unfold iblk
  rw [View.read_apply]
  show V m c main_arg1 _ = m (c.tc.loc main_arg1) _
  rw [V_main_arg1]
  have hi := (index_all t).2.1
  congr 1
  funext a
  apply Fin.ext
  match a with
  | ⟨0, _⟩ => show win0_1.index t 0 * 1 + 1 * 0 = 0; rw [hi.1]
  | ⟨1, _⟩ => show win0_1.index t 1 * 1024 + 1 * k.val = k.val; rw [hi.2]; omega

/-- The weight reaches the kernel transposed. -/
theorem read2 (c : Dev nD) (t : Fin cfg0.N) (j : Fin 2304) (k : Fin 1024) :
    iblk m c 2 t (ix2 j k) = m ((c : Thread nD τ).loc main_arg2) (ix2 k j) := by
  unfold iblk
  rw [View.read_apply]
  show V m c main_v1 _ = m (c.tc.loc main_arg2) _
  unfold V
  after_reads_at
  have hi := (index_all t).2.2.1
  show m (c.tc.loc main_arg2) _ = _
  congr 1
  funext a
  apply Fin.ext
  match a with
  | ⟨0, _⟩ => show win0_2.index t 1 * 1024 + 1 * k.val = k.val; rw [hi.2]; omega
  | ⟨1, _⟩ => show win0_2.index t 0 * 2304 + 1 * j.val = j.val; rw [hi.1]; omega

/-- The reciprocal of the root mean square of a row. -/
def inv (x : Fin 1024 → EReal) : EReal :=
  Ideal.rsqrt (Ideal.div (∑ k, x k * x k) (Ideal.ofBits .f32 0x44800000#32) + Ideal.ofBits .f32 0x358637BD#32)

/-- One entry of the projection of a normed row. -/
def entry (x g w : Fin 1024 → EReal) : EReal := ∑ k, x k * inv x * g k * w k

/-- The product that a block of rows enters, read at an entry. -/
theorem product_at (x0 : Vec Ideal S512x1024 .f32) (x1 : Vec Ideal S1x1024 .f32) (x2 : Vec Ideal S2304x1024 .bf16)
    (r : Fin 512) (j : Fin 2304) : k0_pay1 x0 x1 x2 (ix2 r j)
      = entry (fun k => x0 (ix2 r k)) (fun k => x1 (ix2 0 k)) (fun k => x2 (ix2 j k)) := by
  unfold entry inv
  pointwise [k0_pay1]

/-- Row `n`, column `j` of the whole product. -/
def whole (c : Dev nD) (n : Fin 4096) (j : Fin 2304) : EReal :=
  entry (fun k => m ((c : Thread nD τ).loc main_arg0) (ix2 n k)) (fun k => m ((c : Thread nD τ).loc main_arg1) (ix2 0 k))
    (fun k => m ((c : Thread nD τ).loc main_arg2) (ix2 k j))

theorem block_at (c : Dev nD) (t : Fin cfg0.N) (r : Fin 512) (j : Fin 2304) :
    k0_pay1 (iblk m c 0 t) (iblk m c 1 t) (iblk m c 2 t) (ix2 r j) = whole m c (row t r) j := by
  refine (product_at _ _ _ r j).trans ?_
  unfold whole
  simp only [read0, read1, read2]

theorem out3 (c : Dev nD) (n : Fin 4096) (j : Fin 512) :
    (dats m 0 c).arrAt 3 cfg0.N (ix2 n j) = whole m c n ⟨j.val, by omega⟩ := by
  obtain ⟨t, r, rfl⟩ := exists_row n
  have hb := congrFun ((blocks3 m c t (flush0_3 t)).trans (flushed3 m c t)) (ix2 r j)
  have hi := (index_all t).2.2.2.1
  rw [View.read_apply] at hb
  refine Eq.trans (congrArg _ (funext fun a => Fin.ext ?_)) (hb.trans ?_)
  · match a with
    | ⟨0, _⟩ => show 512 * t.val + r.val = win0_3.index t 0 * 512 + 1 * r.val; rw [hi.1]; omega
    | ⟨1, _⟩ => show j.val = win0_3.index t 1 * 512 + 1 * j.val; rw [hi.2]; omega
  · show out0_3 _ _ _ (ix2 r j) = _
    unfold out0_3
    rw [View.ld_unit_zero hz2, View.ld_unit_zero hz2, View.ld_unit_zero hz2, canon3_eq]
    show k0_pay1 (iblk m c 0 t) (iblk m c 1 t) (iblk m c 2 t) (ix3_0 (ix2 r j)) = _
    rw [← block_at]
    generalize k0_pay1 (iblk m c 0 t) (iblk m c 1 t) (iblk m c 2 t) = P
    exact congrArg P (eq_ix2 _)

theorem out4 (c : Dev nD) (n : Fin 4096) (j : Fin 512) :
    (dats m 0 c).arrAt 4 cfg0.N (ix2 n j) = whole m c n ⟨j.val + 512, by omega⟩ := by
  obtain ⟨t, r, rfl⟩ := exists_row n
  have hb := congrFun ((blocks4 m c t (flush0_4 t)).trans (flushed4 m c t)) (ix2 r j)
  have hi := (index_all t).2.2.2.2.1
  rw [View.read_apply] at hb
  refine Eq.trans (congrArg _ (funext fun a => Fin.ext ?_)) (hb.trans ?_)
  · match a with
    | ⟨0, _⟩ => show 512 * t.val + r.val = win0_4.index t 0 * 512 + 1 * r.val; rw [hi.1]; omega
    | ⟨1, _⟩ => show j.val = win0_4.index t 1 * 512 + 1 * j.val; rw [hi.2]; omega
  · show out0_4 _ _ _ (ix2 r j) = _
    unfold out0_4
    rw [View.ld_unit_zero hz2, View.ld_unit_zero hz2, View.ld_unit_zero hz2, canon4_eq]
    show k0_pay1 (iblk m c 0 t) (iblk m c 1 t) (iblk m c 2 t) (ix4_0 (ix2 r j)) = _
    rw [← block_at]
    generalize k0_pay1 (iblk m c 0 t) (iblk m c 1 t) (iblk m c 2 t) = P
    exact congrArg P (eq_ix2 _)

theorem out5 (c : Dev nD) (n : Fin 4096) (j : Fin 512) :
    (dats m 0 c).arrAt 5 cfg0.N (ix2 n j) = whole m c n ⟨j.val + 1024, by omega⟩ := by
  obtain ⟨t, r, rfl⟩ := exists_row n
  have hb := congrFun ((blocks5 m c t (flush0_5 t)).trans (flushed5 m c t)) (ix2 r j)
  have hi := (index_all t).2.2.2.2.2.1
  rw [View.read_apply] at hb
  refine Eq.trans (congrArg _ (funext fun a => Fin.ext ?_)) (hb.trans ?_)
  · match a with
    | ⟨0, _⟩ => show 512 * t.val + r.val = win0_5.index t 0 * 512 + 1 * r.val; rw [hi.1]; omega
    | ⟨1, _⟩ => show j.val = win0_5.index t 1 * 512 + 1 * j.val; rw [hi.2]; omega
  · show out0_5 _ _ _ (ix2 r j) = _
    unfold out0_5
    rw [View.ld_unit_zero hz2, View.ld_unit_zero hz2, View.ld_unit_zero hz2, canon5_eq]
    show k0_pay1 (iblk m c 0 t) (iblk m c 1 t) (iblk m c 2 t) (ix5_0 (ix2 r j)) = _
    rw [← block_at]
    generalize k0_pay1 (iblk m c 0 t) (iblk m c 1 t) (iblk m c 2 t) = P
    exact congrArg P (eq_ix2 _)

theorem out6 (c : Dev nD) (n : Fin 4096) (j : Fin 128) :
    (dats m 0 c).arrAt 6 cfg0.N (ix2 n j) = whole m c n ⟨j.val + 1536, by omega⟩ := by
  obtain ⟨t, r, rfl⟩ := exists_row n
  have hb := congrFun ((blocks6 m c t (flush0_6 t)).trans (flushed6 m c t)) (ix2 r j)
  have hi := (index_all t).2.2.2.2.2.2.1
  rw [View.read_apply] at hb
  refine Eq.trans (congrArg _ (funext fun a => Fin.ext ?_)) (hb.trans ?_)
  · match a with
    | ⟨0, _⟩ => show 512 * t.val + r.val = win0_6.index t 0 * 512 + 1 * r.val; rw [hi.1]; omega
    | ⟨1, _⟩ => show j.val = win0_6.index t 1 * 128 + 1 * j.val; rw [hi.2]; omega
  · show out0_6 _ _ _ (ix2 r j) = _
    unfold out0_6
    rw [View.ld_unit_zero hz2, View.ld_unit_zero hz2, View.ld_unit_zero hz2, canon6_eq]
    show k0_pay1 (iblk m c 0 t) (iblk m c 1 t) (iblk m c 2 t) (ix6_0 (ix2 r j)) = _
    rw [← block_at]
    generalize k0_pay1 (iblk m c 0 t) (iblk m c 1 t) (iblk m c 2 t) = P
    exact congrArg P (eq_ix2 _)

theorem out7 (c : Dev nD) (n : Fin 4096) (j : Fin 128) :
    (dats m 0 c).arrAt 7 cfg0.N (ix2 n j) = whole m c n ⟨j.val + 1664, by omega⟩ := by
  obtain ⟨t, r, rfl⟩ := exists_row n
  have hb := congrFun ((blocks7 m c t (flush0_7 t)).trans (flushed7 m c t)) (ix2 r j)
  have hi := (index_all t).2.2.2.2.2.2.2.1
  rw [View.read_apply] at hb
  refine Eq.trans (congrArg _ (funext fun a => Fin.ext ?_)) (hb.trans ?_)
  · match a with
    | ⟨0, _⟩ => show 512 * t.val + r.val = win0_7.index t 0 * 512 + 1 * r.val; rw [hi.1]; omega
    | ⟨1, _⟩ => show j.val = win0_7.index t 1 * 128 + 1 * j.val; rw [hi.2]; omega
  · show out0_7 _ _ _ (ix2 r j) = _
    unfold out0_7
    rw [View.ld_unit_zero hz2, View.ld_unit_zero hz2, View.ld_unit_zero hz2, canon7_eq]
    show k0_pay1 (iblk m c 0 t) (iblk m c 1 t) (iblk m c 2 t) (ix7_0 (ix2 r j)) = _
    rw [← block_at]
    generalize k0_pay1 (iblk m c 0 t) (iblk m c 1 t) (iblk m c 2 t) = P
    exact congrArg P (eq_ix2 _)

theorem out8 (c : Dev nD) (n : Fin 4096) (j : Fin 512) :
    (dats m 0 c).arrAt 8 cfg0.N (ix2 n j) = whole m c n ⟨j.val + 1792, by omega⟩ := by
  obtain ⟨t, r, rfl⟩ := exists_row n
  have hb := congrFun ((blocks8 m c t (flush0_8 t)).trans (flushed8 m c t)) (ix2 r j)
  have hi := (index_all t).2.2.2.2.2.2.2.2
  rw [View.read_apply] at hb
  refine Eq.trans (congrArg _ (funext fun a => Fin.ext ?_)) (hb.trans ?_)
  · match a with
    | ⟨0, _⟩ => show 512 * t.val + r.val = win0_8.index t 0 * 512 + 1 * r.val; rw [hi.1]; omega
    | ⟨1, _⟩ => show j.val = win0_8.index t 1 * 512 + 1 * j.val; rw [hi.2]; omega
  · show out0_8 _ _ _ (ix2 r j) = _
    unfold out0_8
    rw [View.ld_unit_zero hz2, View.ld_unit_zero hz2, View.ld_unit_zero hz2, canon8_eq]
    show k0_pay1 (iblk m c 0 t) (iblk m c 1 t) (iblk m c 2 t) (ix8_0 (ix2 r j)) = _
    rw [← block_at]
    generalize k0_pay1 (iblk m c 0 t) (iblk m c 1 t) (iblk m c 2 t) = P
    exact congrArg P (eq_ix2 _)

end Cert.InProj
-- ==== Proof.Proj.Claim.lean ====
/-
  The claim about the forward input projection: the kernel's six arrays are the six column ranges of the reference's one
  product, on all arguments.
-/
module

public import proofs.«01_k».proof.Defs
public import proofs.«01_k».proof.Proof.Gen.Reference4Ideal.Run
public import proofs.«01_k».proof.Proof.Gen.Reference4Ideal.Read
public import proofs.«01_k».proof.Proof.Proj.Block

@[expose] public section

noncomputable section

open Idealize.ShloMosaic Idealize.ShloMosaic.TcCoe Idealize.SL.Sem

namespace Cert.InProj

open Cert.Kernel4Ideal Cert.Kernel4Ideal.Gen Cert.Kernel4Ideal.Value Cert.Reference4Ideal.Read

section Reference

variable (x0 : Vec Ideal S4096x1024 .f32) (x1 : Vec Ideal S1x1024 .f32) (x2 : Vec Ideal S1024x2304 .f32)

theorem inv_at (n : Fin 4096) (z : Fin 1) : val_main_v7 (F := Ideal) x0 (ix2 n z) = inv fun k => x0 (ix2 n k) := by
  unfold inv
  pointwise [val_main_v7, val_main_v6, val_main_v5, val_main_v4, val_main_v3, val_main_v2, val_main_v1, val_main_v0,
    val_main_cst, val_main_cst_0, val_main_cst_1]

/-- The reference's product, read at an entry. -/
theorem ref_at (n : Fin 4096) (j : Fin 2304) : val_main_v12 (F := Ideal) x0 x1 x2 (ix2 n j)
    = entry (fun k => x0 (ix2 n k)) (fun k => x1 (ix2 0 k)) (fun k => x2 (ix2 k j)) := by
  unfold entry
  rw [← inv_at x0 n 0]
  unfold val_main_v12 val_main_v11 val_main_v10 val_main_v9 val_main_v8
  generalize val_main_v7 (F := Ideal) x0 = y
  pointwise

theorem v13_at (n : Fin 4096) (j : Fin 512) : val_main_v13 (F := Ideal) x0 x1 x2 (ix2 n j)
    = val_main_v12 (F := Ideal) x0 x1 x2 (ix2 n ⟨j.val, by omega⟩) := by
  unfold val_main_v13
  generalize val_main_v12 (F := Ideal) x0 x1 x2 = y
  pointwise

theorem v14_at (n : Fin 4096) (j : Fin 512) : val_main_v14 (F := Ideal) x0 x1 x2 (ix2 n j)
    = val_main_v12 (F := Ideal) x0 x1 x2 (ix2 n ⟨j.val + 512, by omega⟩) := by
  unfold val_main_v14
  generalize val_main_v12 (F := Ideal) x0 x1 x2 = y
  pointwise
  exact congrArg (fun k => y (ix2 n k)) (Fin.ext (Nat.add_comm _ _))

theorem v19_at (n : Fin 4096) (j : Fin 512) : val_main_v19 (F := Ideal) x0 x1 x2 (ix2 n j)
    = val_main_v12 (F := Ideal) x0 x1 x2 (ix2 n ⟨j.val + 1024, by omega⟩) := by
  unfold val_main_v19 val_main_v15
  generalize val_main_v12 (F := Ideal) x0 x1 x2 = y
  pointwise
  exact congrArg (fun k => y (ix2 n k)) (Fin.ext (Nat.add_comm _ _))

theorem v20_at (n : Fin 4096) (j : Fin 128) : val_main_v20 (F := Ideal) x0 x1 x2 (ix2 n j)
    = val_main_v12 (F := Ideal) x0 x1 x2 (ix2 n ⟨j.val + 1536, by omega⟩) := by
  unfold val_main_v20 val_main_v16
  generalize val_main_v12 (F := Ideal) x0 x1 x2 = y
  pointwise
  exact congrArg (fun k => y (ix2 n k)) (Fin.ext (Nat.add_comm _ _))

theorem v21_at (n : Fin 4096) (j : Fin 128) : val_main_v21 (F := Ideal) x0 x1 x2 (ix2 n j)
    = val_main_v12 (F := Ideal) x0 x1 x2 (ix2 n ⟨j.val + 1664, by omega⟩) := by
  unfold val_main_v21 val_main_v17
  generalize val_main_v12 (F := Ideal) x0 x1 x2 = y
  pointwise
  exact congrArg (fun k => y (ix2 n k)) (Fin.ext (Nat.add_comm _ _))

theorem v18_at (n : Fin 4096) (j : Fin 512) : val_main_v18 (F := Ideal) x0 x1 x2 (ix2 n j)
    = val_main_v12 (F := Ideal) x0 x1 x2 (ix2 n ⟨j.val + 1792, by omega⟩) := by
  unfold val_main_v18
  generalize val_main_v12 (F := Ideal) x0 x1 x2 = y
  pointwise
  exact congrArg (fun k => y (ix2 n k)) (Fin.ext (Nat.add_comm _ _))

end Reference

/-- Two arrays by rows and columns that agree entry by entry are equal. -/
theorem ext2 {a b : Nat} {α : Type} {f g : (⟨2, ![a, b]⟩ : Shape).Idx → α} (h : ∀ n j, f (ix2 n j) = g (ix2 n j)) : f = g := by
  funext i
  rw [eq_ix2 i]
  exact h _ _

theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => (dats m 0 c).arrAt 3 cfg0.N, fun c => (dats m 0 c).arrAt 4 cfg0.N, fun c => (dats m 0 c).arrAt 5 cfg0.N,
    fun c => (dats m 0 c).arrAt 6 cfg0.N, fun c => (dats m 0 c).arrAt 7 cfg0.N, fun c => (dats m 0 c).arrAt 8 cfg0.N,
    run_blocks m g,
    (θ_run Cert.Reference4Ideal.defs _ _).mono (fun r h c => ?_) (Cert.Reference4Ideal.Value.run (F := Ideal) m' g')⟩
  have hr := h c
  obtain ⟨e0, e1, e2⟩ := hargs c
  refine ⟨hr.1.trans ?_, hr.2.1.trans ?_, hr.2.2.1.trans ?_, hr.2.2.2.1.trans ?_, hr.2.2.2.2.1.trans ?_,
    hr.2.2.2.2.2.1.trans ?_, hr.2.2.2.2.2.2⟩
  · refine (val_main_v13_eq _ _ _).trans (ext2 fun n j => ?_)
    rw [e0, e1, e2]
    exact ((v13_at _ _ _ n j).trans (ref_at _ _ _ n _)).trans (out3 m c n j).symm
  · refine (val_main_v14_eq _ _ _).trans (ext2 fun n j => ?_)
    rw [e0, e1, e2]
    exact ((v14_at _ _ _ n j).trans (ref_at _ _ _ n _)).trans (out4 m c n j).symm
  · refine (val_main_v19_eq _ _ _).trans (ext2 fun n j => ?_)
    rw [e0, e1, e2]
    exact ((v19_at _ _ _ n j).trans (ref_at _ _ _ n _)).trans (out5 m c n j).symm
  · refine (val_main_v20_eq _ _ _).trans (ext2 fun n j => ?_)
    rw [e0, e1, e2]
    exact ((v20_at _ _ _ n j).trans (ref_at _ _ _ n _)).trans (out6 m c n j).symm
  · refine (val_main_v21_eq _ _ _).trans (ext2 fun n j => ?_)
    rw [e0, e1, e2]
    exact ((v21_at _ _ _ n j).trans (ref_at _ _ _ n _)).trans (out7 m c n j).symm
  · refine (val_main_v18_eq _ _ _).trans (ext2 fun n j => ?_)
    rw [e0, e1, e2]
    exact ((v18_at _ _ _ n j).trans (ref_at _ _ _ n _)).trans (out8 m c n j).symm

end Cert.InProj
-- ==== Proof.Mix.Stages.lean ====
/-
  One block of rows of the mixing stage's gradient, as the body computes it from the blocks that its windows bring in:
  the values by name, and the five results that it stores row by row.
-/
module

public import proofs.«01_k».proof.Proof.Gen.Kernel5Ideal.Frame.Runs
public import Idealize.ShloMosaic.Lib.Pipeline.Value

@[expose] public section

noncomputable section

namespace Cert.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What the input windows hold at one grid point. -/
@[ext] structure Ins (F : FTy → Type) where
  x : Vec F S256x1024 .f32
  y : Vec F S256x512 .f32
  zs : Vec F S256x512 .f32
  at_ : Vec F S256x512 .f32
  za : Vec F S256x512 .f32
  p : Vec F S256x256 .f32
  tg : Vec F S256x1024 .f32
  wglu : Vec F S512x512 .bf16
  bglu : Vec F S1x512 .f32
  wout : Vec F S1024x1024 .bf16
  gpost : Vec F S1x1024 .f32
  wgate : Vec F S1024x1024 .bf16
  bgate : Vec F S1x1024 .f32
  wproj : Vec F S256x1024 .bf16

namespace Ins

variable (X : Ins F)

/-- The same values as loads through the whole of each buffer. -/
def ld : Ins F where
  x := View.ld X.x (Rect.unit (s := S256x1024) ![0, 0] S256x1024.size inb_S256x1024_S256x1024_0_0)
  y := View.ld X.y (Rect.unit (s := S256x512) ![0, 0] S256x512.size inb_S256x512_S256x512_0_0)
  zs := View.ld X.zs (Rect.unit (s := S256x512) ![0, 0] S256x512.size inb_S256x512_S256x512_0_0)
  at_ := View.ld X.at_ (Rect.unit (s := S256x512) ![0, 0] S256x512.size inb_S256x512_S256x512_0_0)
  za := View.ld X.za (Rect.unit (s := S256x512) ![0, 0] S256x512.size inb_S256x512_S256x512_0_0)
  p := View.ld X.p (Rect.unit (s := S256x256) ![0, 0] S256x256.size inb_S256x256_S256x256_0_0)
  tg := View.ld X.tg (Rect.unit (s := S256x1024) ![0, 0] S256x1024.size inb_S256x1024_S256x1024_0_0)
  wglu := View.ld X.wglu (Rect.unit (s := S512x512) ![0, 0] S512x512.size inb_S512x512_S512x512_0_0)
  bglu := View.ld X.bglu (Rect.unit (s := S1x512) ![0, 0] S1x512.size inb_S1x512_S1x512_0_0)
  wout := View.ld X.wout (Rect.unit (s := S1024x1024) ![0, 0] S1024x1024.size inb_S1024x1024_S1024x1024_0_0)
  gpost := View.ld X.gpost (Rect.unit (s := S1x1024) ![0, 0] S1x1024.size inb_S1x1024_S1x1024_0_0)
  wgate := View.ld X.wgate (Rect.unit (s := S1024x1024) ![0, 0] S1024x1024.size inb_S1024x1024_S1024x1024_0_0)
  bgate := View.ld X.bgate (Rect.unit (s := S1x1024) ![0, 0] S1x1024.size inb_S1x1024_S1x1024_0_0)
  wproj := View.ld X.wproj (Rect.unit (s := S256x1024) ![0, 0] S256x1024.size inb_S256x1024_S256x1024_0_0)

/-- The gelu, the sigmoid of the gated unit and their product. -/
def gl : FVec F S256x512 .f32 := k0_pay29 X.y
def sa : FVec F S256x512 .f32 := k0_pay30 X.y X.wglu X.bglu
def glu : FVec F S256x512 .f32 := k0_pay31 X.y X.wglu X.bglu
/-- The two sigmoids of the gates. -/
def sgs : FVec F S256x512 .f32 := k0_pay33 (k0_pay32 X.zs)
def sga : FVec F S256x512 .f32 := k0_pay34 X.za
/-- The reciprocal root mean square of the mixed rows, the normed rows, the residual sum and the gate's product. -/
def r2 : FVec F S256x1 .f32 := k0_pay37 X.glu X.zs (k0_pay32 X.zs) X.za X.at_ X.wout
def nhat : FVec F S256x1024 .f32 := k0_pay38 X.glu X.zs (k0_pay32 X.zs) X.za X.at_ X.wout
def h1 : FVec F S256x1024 .f32 := k0_pay39 X.gpost X.glu X.zs (k0_pay32 X.zs) X.za X.at_ X.wout X.x
def gp : FVec F S256x1024 .f32 := k0_pay40 X.gpost X.glu X.zs (k0_pay32 X.zs) X.za X.at_ X.wout X.x X.wgate
/-- The gradient of the residual sum, and of the concatenated rows. -/
def dh1 : FVec F S256x1024 .f32 := k0_pay48 X.h1 X.gp X.bgate X.p X.wproj X.tg X.wgate
def dcat : FVec F S256x1024 .f32 := k0_pay52 X.gpost X.r2 X.nhat X.dh1 X.wout
/-- The gradients of the attention's output, of the two gates and of the scan's output. -/
def dat : FVec F S256x512 .f32 := k0_pay57 X.za X.sga X.dcat
def dza : FVec F S256x512 .bf16 := k0_pay58 X.za X.sga X.at_ X.dcat
def dzs : FVec F S256x512 .bf16 := k0_pay59 X.glu X.zs X.sgs X.dcat
def dgl : FVec F S256x512 .f32 := k0_pay62 X.gl X.sa X.zs X.sgs X.dcat X.wglu
def dy : FVec F S256x512 .f32 := k0_pay64 X.y (k0_pay28 X.y) X.dgl

/-- What the five buffers hold after the body: one store through the whole of each. -/
def out15 : Vec F S256x1024 .f32 := View.canon [⟨Rect.unit (s := S256x1024) ![0, 0] S256x1024.size inb_S256x1024_S256x1024_0_0, X.ld.dh1⟩]
def out16 : Vec F S256x512 .f32 := View.canon [⟨Rect.unit (s := S256x512) ![0, 0] S256x512.size inb_S256x512_S256x512_0_0, X.ld.dy⟩]
def out17 : Vec F S256x512 .bf16 := View.canon [⟨Rect.unit (s := S256x512) ![0, 0] S256x512.size inb_S256x512_S256x512_0_0, X.ld.dzs⟩]
def out18 : Vec F S256x512 .f32 := View.canon [⟨Rect.unit (s := S256x512) ![0, 0] S256x512.size inb_S256x512_S256x512_0_0, X.ld.dat⟩]
def out19 : Vec F S256x512 .bf16 := View.canon [⟨Rect.unit (s := S256x512) ![0, 0] S256x512.size inb_S256x512_S256x512_0_0, X.ld.dza⟩]

end Ins

theorem cover_S256x1024_f32 (p : Vec F S256x1024 .f32) (y : S256x1024.Idx) :
    ∃ pc ∈ ([⟨Rect.unit (s := S256x1024) ![0, 0] S256x1024.size inb_S256x1024_S256x1024_0_0, p⟩] : List (View.Piece (Elt F) S256x1024 .f32)), y ∈ pc.1.set :=
  View.cover_of_tiled [⟨Rect.unit (s := S256x1024) ![0, 0] S256x1024.size inb_S256x1024_S256x1024_0_0, p⟩] S256x1024.size (by rfl) y

theorem cover_S256x512_bf16 (p : Vec F S256x512 .bf16) (y : S256x512.Idx) :
    ∃ pc ∈ ([⟨Rect.unit (s := S256x512) ![0, 0] S256x512.size inb_S256x512_S256x512_0_0, p⟩] : List (View.Piece (Elt F) S256x512 .bf16)), y ∈ pc.1.set :=
  View.cover_of_tiled [⟨Rect.unit (s := S256x512) ![0, 0] S256x512.size inb_S256x512_S256x512_0_0, p⟩] S256x512.size (by rfl) y

theorem cover_S256x512_f32 (p : Vec F S256x512 .f32) (y : S256x512.Idx) :
    ∃ pc ∈ ([⟨Rect.unit (s := S256x512) ![0, 0] S256x512.size inb_S256x512_S256x512_0_0, p⟩] : List (View.Piece (Elt F) S256x512 .f32)), y ∈ pc.1.set :=
  View.cover_of_tiled [⟨Rect.unit (s := S256x512) ![0, 0] S256x512.size inb_S256x512_S256x512_0_0, p⟩] S256x512.size (by rfl) y

theorem zero2 : (![0, 0] : Fin 2 → Nat) = fun _ => 0 := funext fun a => by fin_cases a <;> rfl

theorem Ins.ld_eq (X : Ins F) : X.ld = X := by
  exact Ins.ext (View.ld_unit_zero (S := S256x1024) zero2 _ _) (View.ld_unit_zero (S := S256x512) zero2 _ _) (View.ld_unit_zero (S := S256x512) zero2 _ _) (View.ld_unit_zero (S := S256x512) zero2 _ _) (View.ld_unit_zero (S := S256x512) zero2 _ _) (View.ld_unit_zero (S := S256x256) zero2 _ _) (View.ld_unit_zero (S := S256x1024) zero2 _ _) (View.ld_unit_zero (S := S512x512) zero2 _ _) (View.ld_unit_zero (S := S1x512) zero2 _ _) (View.ld_unit_zero (S := S1024x1024) zero2 _ _) (View.ld_unit_zero (S := S1x1024) zero2 _ _) (View.ld_unit_zero (S := S1024x1024) zero2 _ _) (View.ld_unit_zero (S := S1x1024) zero2 _ _) (View.ld_unit_zero (S := S256x1024) zero2 _ _)

theorem Ins.out15_eq (X : Ins F) : X.out15 = X.dh1 := by
  unfold Ins.out15; rw [View.canon_unit_zero zero2, Ins.ld_eq]
theorem Ins.out16_eq (X : Ins F) : X.out16 = X.dy := by
  unfold Ins.out16; rw [View.canon_unit_zero zero2, Ins.ld_eq]
theorem Ins.out17_eq (X : Ins F) : X.out17 = X.dzs := by
  unfold Ins.out17; rw [View.canon_unit_zero zero2, Ins.ld_eq]
theorem Ins.out18_eq (X : Ins F) : X.out18 = X.dat := by
  unfold Ins.out18; rw [View.canon_unit_zero zero2, Ins.ld_eq]
theorem Ins.out19_eq (X : Ins F) : X.out19 = X.dza := by
  unfold Ins.out19; rw [View.canon_unit_zero zero2, Ins.ld_eq]

/-- The body on whole buffers: it runs to a continuation that holds the inputs as they were, the five row results at
    their values, and every other result and scratch buffer at some contents. -/
def Spec (c : Dev nD) (i : grid0.Coords)
    (arg1 : Memref sig .tc .vmem S256x1024 .f32) (harg1 : arg1.IsWhole)
    (arg2 : Memref sig .tc .vmem S256x512 .f32) (harg2 : arg2.IsWhole)
    (arg3 : Memref sig .tc .vmem S256x512 .f32) (harg3 : arg3.IsWhole)
    (arg4 : Memref sig .tc .vmem S256x512 .f32) (harg4 : arg4.IsWhole)
    (arg5 : Memref sig .tc .vmem S256x512 .f32) (harg5 : arg5.IsWhole)
    (arg6 : Memref sig .tc .vmem S256x256 .f32) (harg6 : arg6.IsWhole)
    (arg7 : Memref sig .tc .vmem S256x1024 .f32) (harg7 : arg7.IsWhole)
    (arg8 : Memref sig .tc .vmem S512x512 .bf16) (harg8 : arg8.IsWhole)
    (arg9 : Memref sig .tc .vmem S1x512 .f32) (harg9 : arg9.IsWhole)
    (arg10 : Memref sig .tc .vmem S1024x1024 .bf16) (harg10 : arg10.IsWhole)
    (arg11 : Memref sig .tc .vmem S1x1024 .f32) (harg11 : arg11.IsWhole)
    (arg12 : Memref sig .tc .vmem S1024x1024 .bf16) (harg12 : arg12.IsWhole)
    (arg13 : Memref sig .tc .vmem S1x1024 .f32) (harg13 : arg13.IsWhole)
    (arg14 : Memref sig .tc .vmem S256x1024 .bf16) (harg14 : arg14.IsWhole)
    (arg15 : Memref sig .tc .vmem S1x1 .f32) (harg15 : arg15.IsWhole)
    (arg16 : Memref sig .tc .vmem S256x1024 .f32) (harg16 : arg16.IsWhole)
    (arg17 : Memref sig .tc .vmem S256x512 .f32) (harg17 : arg17.IsWhole)
    (arg18 : Memref sig .tc .vmem S256x512 .bf16) (harg18 : arg18.IsWhole)
    (arg19 : Memref sig .tc .vmem S256x512 .f32) (harg19 : arg19.IsWhole)
    (arg20 : Memref sig .tc .vmem S256x512 .bf16) (harg20 : arg20.IsWhole)
    (arg21 : Memref sig .tc .vmem S1x64x512 .f32) (harg21 : arg21.IsWhole)
    (arg22 : Memref sig .tc .vmem S1x512 .f32) (harg22 : arg22.IsWhole)
    (arg23 : Memref sig .tc .vmem S1x128x1024 .f32) (harg23 : arg23.IsWhole)
    (arg24 : Memref sig .tc .vmem S1x1024 .f32) (harg24 : arg24.IsWhole)
    (arg25 : Memref sig .tc .vmem S1x128x1024 .f32) (harg25 : arg25.IsWhole)
    (arg26 : Memref sig .tc .vmem S1x1024 .f32) (harg26 : arg26.IsWhole)
    (arg27 : Memref sig .tc .vmem S1x256x128 .f32) (harg27 : arg27.IsWhole)
    (arg28 : Memref sig .tc .vmem S1024x1024 .bf16) (harg28 : arg28.IsWhole)
    (arg29 : Memref sig .tc .vmem S1024x1024 .bf16) (harg29 : arg29.IsWhole)
    (arg30 : Memref sig .tc .vmem S8x256x128 .bf16) (harg30 : arg30.IsWhole)
    (arg31 : Memref sig .tc .vmem S512x512 .bf16) (harg31 : arg31.IsWhole)
    (arg32 : Memref sig .tc .vmem S512x512 .f32) (harg32 : arg32.IsWhole)
    (arg33 : Memref sig .tc .vmem S1024x1024 .f32) (harg33 : arg33.IsWhole)
    (arg34 : Memref sig .tc .vmem S1024x1024 .f32) (harg34 : arg34.IsWhole)
    (arg35 : Memref sig .tc .vmem S256x1024 .f32) (harg35 : arg35.IsWhole)
    (X : Ins F) : Prop :=
  ∀ (E : Set ℕ) (K : PUnit → sProp (MT nD τ sig Unit (Elt F) ℕ (UR sig nD τ) ℕ)),
    iprop(owns (c : Thread nD τ) arg1 fullShare X.x ∗ owns (c : Thread nD τ) arg2 fullShare X.y ∗ owns (c : Thread nD τ) arg3 fullShare X.zs ∗ owns (c : Thread nD τ) arg4 fullShare X.at_ ∗ owns (c : Thread nD τ) arg5 fullShare X.za ∗ owns (c : Thread nD τ) arg6 fullShare X.p ∗ owns (c : Thread nD τ) arg7 fullShare X.tg ∗ owns (c : Thread nD τ) arg8 fullShare X.wglu ∗ owns (c : Thread nD τ) arg9 fullShare X.bglu ∗ owns (c : Thread nD τ) arg10 fullShare X.wout ∗ owns (c : Thread nD τ) arg11 fullShare X.gpost ∗ owns (c : Thread nD τ) arg12 fullShare X.wgate ∗ owns (c : Thread nD τ) arg13 fullShare X.bgate ∗ owns (c : Thread nD τ) arg14 fullShare X.wproj ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)
      ∗ (iprop(owns (c : Thread nD τ) arg1 fullShare X.x ∗ owns (c : Thread nD τ) arg2 fullShare X.y ∗ owns (c : Thread nD τ) arg3 fullShare X.zs ∗ owns (c : Thread nD τ) arg4 fullShare X.at_ ∗ owns (c : Thread nD τ) arg5 fullShare X.za ∗ owns (c : Thread nD τ) arg6 fullShare X.p ∗ owns (c : Thread nD τ) arg7 fullShare X.tg ∗ owns (c : Thread nD τ) arg8 fullShare X.wglu ∗ owns (c : Thread nD τ) arg9 fullShare X.bglu ∗ owns (c : Thread nD τ) arg10 fullShare X.wout ∗ owns (c : Thread nD τ) arg11 fullShare X.gpost ∗ owns (c : Thread nD τ) arg12 fullShare X.wgate ∗ owns (c : Thread nD τ) arg13 fullShare X.bgate ∗ owns (c : Thread nD τ) arg14 fullShare X.wproj ∗ (∃ d, owns (c : Thread nD τ) arg15 fullShare d) ∗ owns (c : Thread nD τ) arg16 fullShare X.out15 ∗ owns (c : Thread nD τ) arg17 fullShare X.out16 ∗ owns (c : Thread nD τ) arg18 fullShare X.out17 ∗ owns (c : Thread nD τ) arg19 fullShare X.out18 ∗ owns (c : Thread nD τ) arg20 fullShare X.out19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)) -∗ K ⟨⟩))
    ⊢ wp frame (wpE (defs₀ (F := F)) Variants.none c none) E
      (cc0_mix_forward_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K

end Cert.Mix

end
-- ==== Proof.Mix.Data.lean ====
/-
  What the windows of the mixing stage's launch hold at each grid point: the inputs their blocks, the five row results
  the values that the body computes, the other results some contents.
-/
module

public import proofs.«01_k».proof.Proof.Mix.Stages
public import Idealize.ShloMosaic.Lib.Claim

@[expose] public section

set_option maxRecDepth 16384

noncomputable section

namespace Cert.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks that the input windows bring in at point `t`. -/
def ins (c : Dev nD) (t : Fin cfg0.N) : Ins F where
  x := iblk m c 0 t
  y := iblk m c 1 t
  zs := iblk m c 2 t
  at_ := iblk m c 3 t
  za := iblk m c 4 t
  p := iblk m c 5 t
  tg := iblk m c 6 t
  wglu := iblk m c 7 t
  bglu := iblk m c 8 t
  wout := iblk m c 9 t
  gpost := iblk m c 10 t
  wgate := iblk m c 11 t
  bgate := iblk m c 12 t
  wproj := iblk m c 13 t

/-- The windows of which nothing is said: the loss and the sums over all rows. -/
def fgt : Fin 31 → Bool := fun w => w.val == 14 || decide (20 ≤ w.val)

/-- The proof data: inputs at their blocks, the five row results at what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
    | ⟨15, _⟩ => (ins m c t).out15
    | ⟨16, _⟩ => (ins m c t).out16
    | ⟨17, _⟩ => (ins m c t).out17
    | ⟨18, _⟩ => (ins m c t).out18
    | ⟨19, _⟩ => (ins m c t).out19
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨28, h⟩ => Pipeline.Dat.unnamed (cfg := cfg0) ⟨28, h⟩ t
    | ⟨29, h⟩ => Pipeline.Dat.unnamed (cfg := cfg0) ⟨29, h⟩ t
    | ⟨30, h⟩ => Pipeline.Dat.unnamed (cfg := cfg0) ⟨30, h⟩ t
    | ⟨_ + 31, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after15 (c : Dev nD) (t : Fin cfg0.N) : (dats m 0 c).after 15 t = (ins m c t).out15 := by dsimp only [dats]
theorem after16 (c : Dev nD) (t : Fin cfg0.N) : (dats m 0 c).after 16 t = (ins m c t).out16 := by dsimp only [dats]
theorem after17 (c : Dev nD) (t : Fin cfg0.N) : (dats m 0 c).after 17 t = (ins m c t).out17 := by dsimp only [dats]
theorem after18 (c : Dev nD) (t : Fin cfg0.N) : (dats m 0 c).after 18 t = (ins m c t).out18 := by dsimp only [dats]
theorem after19 (c : Dev nD) (t : Fin cfg0.N) : (dats m 0 c).after 19 t = (ins m c t).out19 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d

theorem leaves0 (c : Dev nD) (t : Fin cfg0.N) : (dats m 0 c).leavesExact 0 t = owns (c : Thread nD τ) (ms0_0 t) fullShare (iblk m c 0 t) := by
  unfold Dat.leavesExact; rw [liveAt0_0 t, after0]
theorem leaves1 (c : Dev nD) (t : Fin cfg0.N) : (dats m 0 c).leavesExact 1 t = owns (c : Thread nD τ) (ms0_1 t) fullShare (iblk m c 1 t) := by
  unfold Dat.leavesExact; rw [liveAt0_1 t, after1]
theorem leaves2 (c : Dev nD) (t : Fin cfg0.N) : (dats m 0 c).leavesExact 2 t = owns (c : Thread nD τ) (ms0_2 t) fullShare (iblk m c 2 t) := by
  unfold Dat.leavesExact; rw [liveAt0_2 t, after2]
theorem leaves3 (c : Dev nD) (t : Fin cfg0.N) : (dats m 0 c).leavesExact 3 t = owns (c : Thread nD τ) (ms0_3 t) fullShare (iblk m c 3 t) := by
  unfold Dat.leavesExact; rw [liveAt0_3 t, after3]
theorem leaves4 (c : Dev nD) (t : Fin cfg0.N) : (dats m 0 c).leavesExact 4 t = owns (c : Thread nD τ) (ms0_4 t) fullShare (iblk m c 4 t) := by
  unfold Dat.leavesExact; rw [liveAt0_4 t, after4]
theorem leaves5 (c : Dev nD) (t : Fin cfg0.N) : (dats m 0 c).leavesExact 5 t = owns (c : Thread nD τ) (ms0_5 t) fullShare (iblk m c 5 t) := by
  unfold Dat.leavesExact; rw [liveAt0_5 t, after5]
theorem leaves6 (c : Dev nD) (t : Fin cfg0.N) : (dats m 0 c).leavesExact 6 t = owns (c : Thread nD τ) (ms0_6 t) fullShare (iblk m c 6 t) := by
  unfold Dat.leavesExact; rw [liveAt0_6 t, after6]
theorem leaves7 (c : Dev nD) (t : Fin cfg0.N) : (dats m 0 c).leavesExact 7 t = owns (c : Thread nD τ) (ms0_7 t) fullShare (iblk m c 7 t) := by
  unfold Dat.leavesExact; rw [liveAt0_7 t, after7]
theorem leaves8 (c : Dev nD) (t : Fin cfg0.N) : (dats m 0 c).leavesExact 8 t = owns (c : Thread nD τ) (ms0_8 t) fullShare (iblk m c 8 t) := by
  unfold Dat.leavesExact; rw [liveAt0_8 t, after8]
theorem leaves9 (c : Dev nD) (t : Fin cfg0.N) : (dats m 0 c).leavesExact 9 t = owns (c : Thread nD τ) (ms0_9 t) fullShare (iblk m c 9 t) := by
  unfold Dat.leavesExact; rw [liveAt0_9 t, after9]
theorem leaves10 (c : Dev nD) (t : Fin cfg0.N) : (dats m 0 c).leavesExact 10 t = owns (c : Thread nD τ) (ms0_10 t) fullShare (iblk m c 10 t) := by
  unfold Dat.leavesExact; rw [liveAt0_10 t, after10]
theorem leaves11 (c : Dev nD) (t : Fin cfg0.N) : (dats m 0 c).leavesExact 11 t = owns (c : Thread nD τ) (ms0_11 t) fullShare (iblk m c 11 t) := by
  unfold Dat.leavesExact; rw [liveAt0_11 t, after11]
theorem leaves12 (c : Dev nD) (t : Fin cfg0.N) : (dats m 0 c).leavesExact 12 t = owns (c : Thread nD τ) (ms0_12 t) fullShare (iblk m c 12 t) := by
  unfold Dat.leavesExact; rw [liveAt0_12 t, after12]
theorem leaves13 (c : Dev nD) (t : Fin cfg0.N) : (dats m 0 c).leavesExact 13 t = owns (c : Thread nD τ) (ms0_13 t) fullShare (iblk m c 13 t) := by
  unfold Dat.leavesExact; rw [liveAt0_13 t, after13]
theorem leaves15 (c : Dev nD) (t : Fin cfg0.N) : (dats m 0 c).leavesExact 15 t = owns (c : Thread nD τ) (ms0_15 t) fullShare ((ins m c t).out15) := by
  unfold Dat.leavesExact; rw [liveAt0_15 t, after15]
theorem leaves16 (c : Dev nD) (t : Fin cfg0.N) : (dats m 0 c).leavesExact 16 t = owns (c : Thread nD τ) (ms0_16 t) fullShare ((ins m c t).out16) := by
  unfold Dat.leavesExact; rw [liveAt0_16 t, after16]
theorem leaves17 (c : Dev nD) (t : Fin cfg0.N) : (dats m 0 c).leavesExact 17 t = owns (c : Thread nD τ) (ms0_17 t) fullShare ((ins m c t).out17) := by
  unfold Dat.leavesExact; rw [liveAt0_17 t, after17]
theorem leaves18 (c : Dev nD) (t : Fin cfg0.N) : (dats m 0 c).leavesExact 18 t = owns (c : Thread nD τ) (ms0_18 t) fullShare ((ins m c t).out18) := by
  unfold Dat.leavesExact; rw [liveAt0_18 t, after18]
theorem leaves19 (c : Dev nD) (t : Fin cfg0.N) : (dats m 0 c).leavesExact 19 t = owns (c : Thread nD τ) (ms0_19 t) fullShare ((ins m c t).out19) := by
  unfold Dat.leavesExact; rw [liveAt0_19 t, after19]

end Cert.Mix

end
-- ==== Proof.Mix.Load.lean ====
/-
  A load through the whole of a buffer, and a buffer after one store through the whole of it.
-/
module

public import proofs.«01_k».proof.Proof.Mix.Stages

@[expose] public section

noncomputable section

namespace Cert.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A load through the whole of a buffer is what the buffer was given. -/
theorem readAt_whole {a b : Nat} {e : EltTy} (m : Memref sig .tc .vmem ⟨2, ![a, b]⟩ e) (hm : m.IsWhole) (v : Vec F ⟨2, ![a, b]⟩ e)
    (inb : ∀ x, (![0, 0] : Fin 2 → Nat) x + (![a, b] : Fin 2 → Nat) x ≤ (⟨2, ![a, b]⟩ : Shape).size x) :
    View.readAt (Elt F) m.view (Rect.unit (s := ⟨2, ![a, b]⟩) ![0, 0] ![a, b] inb).toLoadRect (hm.unread v) = v := by
  rw [View.readAt_eq_ld, Memref.IsWhole.read_unread]
  exact View.ld_unit_zero (S := ⟨2, ![a, b]⟩) zero2 _ _

theorem Ins.out15_of (X : Ins F) {v : Vec F S256x1024 .f32} (h : v = X.dh1) :
    View.canon [⟨Rect.unit (s := S256x1024) ![0, 0] S256x1024.size inb_S256x1024_S256x1024_0_0, v⟩] = X.out15 := by
  subst h; unfold Ins.out15; rw [Ins.ld_eq]

theorem Ins.out16_of (X : Ins F) {v : Vec F S256x512 .f32} (h : v = X.dy) :
    View.canon [⟨Rect.unit (s := S256x512) ![0, 0] S256x512.size inb_S256x512_S256x512_0_0, v⟩] = X.out16 := by
  subst h; unfold Ins.out16; rw [Ins.ld_eq]

theorem Ins.out17_of (X : Ins F) {v : Vec F S256x512 .bf16} (h : v = X.dzs) :
    View.canon [⟨Rect.unit (s := S256x512) ![0, 0] S256x512.size inb_S256x512_S256x512_0_0, v⟩] = X.out17 := by
  subst h; unfold Ins.out17; rw [Ins.ld_eq]

theorem Ins.out18_of (X : Ins F) {v : Vec F S256x512 .f32} (h : v = X.dat) :
    View.canon [⟨Rect.unit (s := S256x512) ![0, 0] S256x512.size inb_S256x512_S256x512_0_0, v⟩] = X.out18 := by
  subst h; unfold Ins.out18; rw [Ins.ld_eq]

theorem Ins.out19_of (X : Ins F) {v : Vec F S256x512 .bf16} (h : v = X.dza) :
    View.canon [⟨Rect.unit (s := S256x512) ![0, 0] S256x512.size inb_S256x512_S256x512_0_0, v⟩] = X.out19 := by
  subst h; unfold Ins.out19; rw [Ins.ld_eq]

end Cert.Mix

end
-- ==== Proof.Mix.RunA.lean ====
/-
  The body of the mixing stage's gradient at the first point.
-/
module

public import proofs.«01_k».proof.Proof.Mix.Load

@[expose] public section

set_option maxRecDepth 16384

noncomputable section

namespace Cert.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 20000000 in
theorem run_A (c : Dev nD) (i : grid0.Coords)
    (arg1 : Memref sig .tc .vmem S256x1024 .f32) (harg1 : arg1.IsWhole)
    (arg2 : Memref sig .tc .vmem S256x512 .f32) (harg2 : arg2.IsWhole)
    (arg3 : Memref sig .tc .vmem S256x512 .f32) (harg3 : arg3.IsWhole)
    (arg4 : Memref sig .tc .vmem S256x512 .f32) (harg4 : arg4.IsWhole)
    (arg5 : Memref sig .tc .vmem S256x512 .f32) (harg5 : arg5.IsWhole)
    (arg6 : Memref sig .tc .vmem S256x256 .f32) (harg6 : arg6.IsWhole)
    (arg7 : Memref sig .tc .vmem S256x1024 .f32) (harg7 : arg7.IsWhole)
    (arg8 : Memref sig .tc .vmem S512x512 .bf16) (harg8 : arg8.IsWhole)
    (arg9 : Memref sig .tc .vmem S1x512 .f32) (harg9 : arg9.IsWhole)
    (arg10 : Memref sig .tc .vmem S1024x1024 .bf16) (harg10 : arg10.IsWhole)
    (arg11 : Memref sig .tc .vmem S1x1024 .f32) (harg11 : arg11.IsWhole)
    (arg12 : Memref sig .tc .vmem S1024x1024 .bf16) (harg12 : arg12.IsWhole)
    (arg13 : Memref sig .tc .vmem S1x1024 .f32) (harg13 : arg13.IsWhole)
    (arg14 : Memref sig .tc .vmem S256x1024 .bf16) (harg14 : arg14.IsWhole)
    (arg15 : Memref sig .tc .vmem S1x1 .f32) (harg15 : arg15.IsWhole)
    (arg16 : Memref sig .tc .vmem S256x1024 .f32) (harg16 : arg16.IsWhole)
    (arg17 : Memref sig .tc .vmem S256x512 .f32) (harg17 : arg17.IsWhole)
    (arg18 : Memref sig .tc .vmem S256x512 .bf16) (harg18 : arg18.IsWhole)
    (arg19 : Memref sig .tc .vmem S256x512 .f32) (harg19 : arg19.IsWhole)
    (arg20 : Memref sig .tc .vmem S256x512 .bf16) (harg20 : arg20.IsWhole)
    (arg21 : Memref sig .tc .vmem S1x64x512 .f32) (harg21 : arg21.IsWhole)
    (arg22 : Memref sig .tc .vmem S1x512 .f32) (harg22 : arg22.IsWhole)
    (arg23 : Memref sig .tc .vmem S1x128x1024 .f32) (harg23 : arg23.IsWhole)
    (arg24 : Memref sig .tc .vmem S1x1024 .f32) (harg24 : arg24.IsWhole)
    (arg25 : Memref sig .tc .vmem S1x128x1024 .f32) (harg25 : arg25.IsWhole)
    (arg26 : Memref sig .tc .vmem S1x1024 .f32) (harg26 : arg26.IsWhole)
    (arg27 : Memref sig .tc .vmem S1x256x128 .f32) (harg27 : arg27.IsWhole)
    (arg28 : Memref sig .tc .vmem S1024x1024 .bf16) (harg28 : arg28.IsWhole)
    (arg29 : Memref sig .tc .vmem S1024x1024 .bf16) (harg29 : arg29.IsWhole)
    (arg30 : Memref sig .tc .vmem S8x256x128 .bf16) (harg30 : arg30.IsWhole)
    (arg31 : Memref sig .tc .vmem S512x512 .bf16) (harg31 : arg31.IsWhole)
    (arg32 : Memref sig .tc .vmem S512x512 .f32) (harg32 : arg32.IsWhole)
    (arg33 : Memref sig .tc .vmem S1024x1024 .f32) (harg33 : arg33.IsWhole)
    (arg34 : Memref sig .tc .vmem S1024x1024 .f32) (harg34 : arg34.IsWhole)
    (arg35 : Memref sig .tc .vmem S256x1024 .f32) (harg35 : arg35.IsWhole)
    (hc0 : cond0_0 i) (hc1 : ¬cond0_1 i) (X : Ins F) :
    Spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 X := by
  intro E K
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  simp only [cc0_mix_forward_backward_eq_skeleton]; unfold cc0_mix_forward_backward_skel
  simp only [k0_part3_eq_skeleton, k0_part4_eq_skeleton, k0_part5_eq_skeleton, k0_part6_eq_skeleton, k0_part7_eq_skeleton, k0_part8_eq_skeleton]
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _, _; isplitr; swap; · iexact H14
    ipureintro; rfl
  isplitl [H15]
  · iexists _; isplitr; swap; · iexact H15
    ipureintro
    refine (View.read_writes_eq_canon _ _ _ (cover_S256x1024_f32 _)).trans (Ins.out15_of X ?_)
    sl_unfold_words
    simp only [readAt_whole]
    rfl
  isplitl [H16]
  · iexists _; isplitr; swap; · iexact H16
    ipureintro
    refine (View.read_writes_eq_canon _ _ _ (cover_S256x512_f32 _)).trans (Ins.out16_of X ?_)
    sl_unfold_words
    simp only [readAt_whole]
    rfl
  isplitl [H17]
  · iexists _; isplitr; swap; · iexact H17
    ipureintro
    refine (View.read_writes_eq_canon _ _ _ (cover_S256x512_bf16 _)).trans (Ins.out17_of X ?_)
    sl_unfold_words
    simp only [readAt_whole]
    rfl
  isplitl [H18]
  · iexists _; isplitr; swap; · iexact H18
    ipureintro
    refine (View.read_writes_eq_canon _ _ _ (cover_S256x512_f32 _)).trans (Ins.out18_of X ?_)
    sl_unfold_words
    simp only [readAt_whole]
    rfl
  isplitl [H19]
  · iexists _; isplitr; swap; · iexact H19
    ipureintro
    refine (View.read_writes_eq_canon _ _ _ (cover_S256x512_bf16 _)).trans (Ins.out19_of X ?_)
    sl_unfold_words
    simp only [readAt_whole]
    rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  isplitl [H31]
  · iexists _, _; isplitr; swap; · iexact H31
    ipureintro; rfl
  isplitl [H32]
  · iexists _, _; isplitr; swap; · iexact H32
    ipureintro; rfl
  isplitl [H33]
  · iexists _, _; isplitr; swap; · iexact H33
    ipureintro; rfl
  iexists _, _; isplitr; swap; · iexact H34
  ipureintro; rfl

end Cert.Mix

end
-- ==== Proof.Mix.RunB.lean ====
/-
  The body of the mixing stage's gradient at a point between the first and the last.
-/
module

public import proofs.«01_k».proof.Proof.Mix.Load

@[expose] public section

set_option maxRecDepth 16384

noncomputable section

namespace Cert.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 20000000 in
theorem run_B (c : Dev nD) (i : grid0.Coords)
    (arg1 : Memref sig .tc .vmem S256x1024 .f32) (harg1 : arg1.IsWhole)
    (arg2 : Memref sig .tc .vmem S256x512 .f32) (harg2 : arg2.IsWhole)
    (arg3 : Memref sig .tc .vmem S256x512 .f32) (harg3 : arg3.IsWhole)
    (arg4 : Memref sig .tc .vmem S256x512 .f32) (harg4 : arg4.IsWhole)
    (arg5 : Memref sig .tc .vmem S256x512 .f32) (harg5 : arg5.IsWhole)
    (arg6 : Memref sig .tc .vmem S256x256 .f32) (harg6 : arg6.IsWhole)
    (arg7 : Memref sig .tc .vmem S256x1024 .f32) (harg7 : arg7.IsWhole)
    (arg8 : Memref sig .tc .vmem S512x512 .bf16) (harg8 : arg8.IsWhole)
    (arg9 : Memref sig .tc .vmem S1x512 .f32) (harg9 : arg9.IsWhole)
    (arg10 : Memref sig .tc .vmem S1024x1024 .bf16) (harg10 : arg10.IsWhole)
    (arg11 : Memref sig .tc .vmem S1x1024 .f32) (harg11 : arg11.IsWhole)
    (arg12 : Memref sig .tc .vmem S1024x1024 .bf16) (harg12 : arg12.IsWhole)
    (arg13 : Memref sig .tc .vmem S1x1024 .f32) (harg13 : arg13.IsWhole)
    (arg14 : Memref sig .tc .vmem S256x1024 .bf16) (harg14 : arg14.IsWhole)
    (arg15 : Memref sig .tc .vmem S1x1 .f32) (harg15 : arg15.IsWhole)
    (arg16 : Memref sig .tc .vmem S256x1024 .f32) (harg16 : arg16.IsWhole)
    (arg17 : Memref sig .tc .vmem S256x512 .f32) (harg17 : arg17.IsWhole)
    (arg18 : Memref sig .tc .vmem S256x512 .bf16) (harg18 : arg18.IsWhole)
    (arg19 : Memref sig .tc .vmem S256x512 .f32) (harg19 : arg19.IsWhole)
    (arg20 : Memref sig .tc .vmem S256x512 .bf16) (harg20 : arg20.IsWhole)
    (arg21 : Memref sig .tc .vmem S1x64x512 .f32) (harg21 : arg21.IsWhole)
    (arg22 : Memref sig .tc .vmem S1x512 .f32) (harg22 : arg22.IsWhole)
    (arg23 : Memref sig .tc .vmem S1x128x1024 .f32) (harg23 : arg23.IsWhole)
    (arg24 : Memref sig .tc .vmem S1x1024 .f32) (harg24 : arg24.IsWhole)
    (arg25 : Memref sig .tc .vmem S1x128x1024 .f32) (harg25 : arg25.IsWhole)
    (arg26 : Memref sig .tc .vmem S1x1024 .f32) (harg26 : arg26.IsWhole)
    (arg27 : Memref sig .tc .vmem S1x256x128 .f32) (harg27 : arg27.IsWhole)
    (arg28 : Memref sig .tc .vmem S1024x1024 .bf16) (harg28 : arg28.IsWhole)
    (arg29 : Memref sig .tc .vmem S1024x1024 .bf16) (harg29 : arg29.IsWhole)
    (arg30 : Memref sig .tc .vmem S8x256x128 .bf16) (harg30 : arg30.IsWhole)
    (arg31 : Memref sig .tc .vmem S512x512 .bf16) (harg31 : arg31.IsWhole)
    (arg32 : Memref sig .tc .vmem S512x512 .f32) (harg32 : arg32.IsWhole)
    (arg33 : Memref sig .tc .vmem S1024x1024 .f32) (harg33 : arg33.IsWhole)
    (arg34 : Memref sig .tc .vmem S1024x1024 .f32) (harg34 : arg34.IsWhole)
    (arg35 : Memref sig .tc .vmem S256x1024 .f32) (harg35 : arg35.IsWhole)
    (hc0 : ¬cond0_0 i) (hc1 : ¬cond0_1 i) (X : Ins F) :
    Spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 X := by
  intro E K
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  simp only [cc0_mix_forward_backward_eq_skeleton]; unfold cc0_mix_forward_backward_skel
  simp only [k0_part3_eq_skeleton, k0_part4_eq_skeleton, k0_part5_eq_skeleton, k0_part6_eq_skeleton, k0_part7_eq_skeleton, k0_part8_eq_skeleton]
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _, _; isplitr; swap; · iexact H14
    ipureintro; rfl
  isplitl [H15]
  · iexists _; isplitr; swap; · iexact H15
    ipureintro
    refine (View.read_writes_eq_canon _ _ _ (cover_S256x1024_f32 _)).trans (Ins.out15_of X ?_)
    sl_unfold_words
    simp only [readAt_whole]
    rfl
  isplitl [H16]
  · iexists _; isplitr; swap; · iexact H16
    ipureintro
    refine (View.read_writes_eq_canon _ _ _ (cover_S256x512_f32 _)).trans (Ins.out16_of X ?_)
    sl_unfold_words
    simp only [readAt_whole]
    rfl
  isplitl [H17]
  · iexists _; isplitr; swap; · iexact H17
    ipureintro
    refine (View.read_writes_eq_canon _ _ _ (cover_S256x512_bf16 _)).trans (Ins.out17_of X ?_)
    sl_unfold_words
    simp only [readAt_whole]
    rfl
  isplitl [H18]
  · iexists _; isplitr; swap; · iexact H18
    ipureintro
    refine (View.read_writes_eq_canon _ _ _ (cover_S256x512_f32 _)).trans (Ins.out18_of X ?_)
    sl_unfold_words
    simp only [readAt_whole]
    rfl
  isplitl [H19]
  · iexists _; isplitr; swap; · iexact H19
    ipureintro
    refine (View.read_writes_eq_canon _ _ _ (cover_S256x512_bf16 _)).trans (Ins.out19_of X ?_)
    sl_unfold_words
    simp only [readAt_whole]
    rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  isplitl [H31]
  · iexists _, _; isplitr; swap; · iexact H31
    ipureintro; rfl
  isplitl [H32]
  · iexists _, _; isplitr; swap; · iexact H32
    ipureintro; rfl
  isplitl [H33]
  · iexists _, _; isplitr; swap; · iexact H33
    ipureintro; rfl
  iexists _, _; isplitr; swap; · iexact H34
  ipureintro; rfl

end Cert.Mix

end
-- ==== Proof.Mix.RunC.lean ====
/-
  The body of the mixing stage's gradient at the last point.
-/
module

public import proofs.«01_k».proof.Proof.Mix.Load

@[expose] public section

set_option maxRecDepth 16384

noncomputable section

namespace Cert.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 20000000 in
theorem run_C (c : Dev nD) (i : grid0.Coords)
    (arg1 : Memref sig .tc .vmem S256x1024 .f32) (harg1 : arg1.IsWhole)
    (arg2 : Memref sig .tc .vmem S256x512 .f32) (harg2 : arg2.IsWhole)
    (arg3 : Memref sig .tc .vmem S256x512 .f32) (harg3 : arg3.IsWhole)
    (arg4 : Memref sig .tc .vmem S256x512 .f32) (harg4 : arg4.IsWhole)
    (arg5 : Memref sig .tc .vmem S256x512 .f32) (harg5 : arg5.IsWhole)
    (arg6 : Memref sig .tc .vmem S256x256 .f32) (harg6 : arg6.IsWhole)
    (arg7 : Memref sig .tc .vmem S256x1024 .f32) (harg7 : arg7.IsWhole)
    (arg8 : Memref sig .tc .vmem S512x512 .bf16) (harg8 : arg8.IsWhole)
    (arg9 : Memref sig .tc .vmem S1x512 .f32) (harg9 : arg9.IsWhole)
    (arg10 : Memref sig .tc .vmem S1024x1024 .bf16) (harg10 : arg10.IsWhole)
    (arg11 : Memref sig .tc .vmem S1x1024 .f32) (harg11 : arg11.IsWhole)
    (arg12 : Memref sig .tc .vmem S1024x1024 .bf16) (harg12 : arg12.IsWhole)
    (arg13 : Memref sig .tc .vmem S1x1024 .f32) (harg13 : arg13.IsWhole)
    (arg14 : Memref sig .tc .vmem S256x1024 .bf16) (harg14 : arg14.IsWhole)
    (arg15 : Memref sig .tc .vmem S1x1 .f32) (harg15 : arg15.IsWhole)
    (arg16 : Memref sig .tc .vmem S256x1024 .f32) (harg16 : arg16.IsWhole)
    (arg17 : Memref sig .tc .vmem S256x512 .f32) (harg17 : arg17.IsWhole)
    (arg18 : Memref sig .tc .vmem S256x512 .bf16) (harg18 : arg18.IsWhole)
    (arg19 : Memref sig .tc .vmem S256x512 .f32) (harg19 : arg19.IsWhole)
    (arg20 : Memref sig .tc .vmem S256x512 .bf16) (harg20 : arg20.IsWhole)
    (arg21 : Memref sig .tc .vmem S1x64x512 .f32) (harg21 : arg21.IsWhole)
    (arg22 : Memref sig .tc .vmem S1x512 .f32) (harg22 : arg22.IsWhole)
    (arg23 : Memref sig .tc .vmem S1x128x1024 .f32) (harg23 : arg23.IsWhole)
    (arg24 : Memref sig .tc .vmem S1x1024 .f32) (harg24 : arg24.IsWhole)
    (arg25 : Memref sig .tc .vmem S1x128x1024 .f32) (harg25 : arg25.IsWhole)
    (arg26 : Memref sig .tc .vmem S1x1024 .f32) (harg26 : arg26.IsWhole)
    (arg27 : Memref sig .tc .vmem S1x256x128 .f32) (harg27 : arg27.IsWhole)
    (arg28 : Memref sig .tc .vmem S1024x1024 .bf16) (harg28 : arg28.IsWhole)
    (arg29 : Memref sig .tc .vmem S1024x1024 .bf16) (harg29 : arg29.IsWhole)
    (arg30 : Memref sig .tc .vmem S8x256x128 .bf16) (harg30 : arg30.IsWhole)
    (arg31 : Memref sig .tc .vmem S512x512 .bf16) (harg31 : arg31.IsWhole)
    (arg32 : Memref sig .tc .vmem S512x512 .f32) (harg32 : arg32.IsWhole)
    (arg33 : Memref sig .tc .vmem S1024x1024 .f32) (harg33 : arg33.IsWhole)
    (arg34 : Memref sig .tc .vmem S1024x1024 .f32) (harg34 : arg34.IsWhole)
    (arg35 : Memref sig .tc .vmem S256x1024 .f32) (harg35 : arg35.IsWhole)
    (hc0 : ¬cond0_0 i) (hc1 : cond0_1 i) (X : Ins F) :
    Spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 X := by
  intro E K
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  simp only [cc0_mix_forward_backward_eq_skeleton]; unfold cc0_mix_forward_backward_skel
  simp only [k0_part3_eq_skeleton, k0_part4_eq_skeleton, k0_part5_eq_skeleton, k0_part6_eq_skeleton, k0_part7_eq_skeleton, k0_part8_eq_skeleton, k0_part1_eq_skeleton, k0_part2_eq_skeleton]
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _, _; isplitr; swap; · iexact H14
    ipureintro; rfl
  isplitl [H15]
  · iexists _; isplitr; swap; · iexact H15
    ipureintro
    refine (View.read_writes_eq_canon _ _ _ (cover_S256x1024_f32 _)).trans (Ins.out15_of X ?_)
    sl_unfold_words
    simp only [readAt_whole]
    rfl
  isplitl [H16]
  · iexists _; isplitr; swap; · iexact H16
    ipureintro
    refine (View.read_writes_eq_canon _ _ _ (cover_S256x512_f32 _)).trans (Ins.out16_of X ?_)
    sl_unfold_words
    simp only [readAt_whole]
    rfl
  isplitl [H17]
  · iexists _; isplitr; swap; · iexact H17
    ipureintro
    refine (View.read_writes_eq_canon _ _ _ (cover_S256x512_bf16 _)).trans (Ins.out17_of X ?_)
    sl_unfold_words
    simp only [readAt_whole]
    rfl
  isplitl [H18]
  · iexists _; isplitr; swap; · iexact H18
    ipureintro
    refine (View.read_writes_eq_canon _ _ _ (cover_S256x512_f32 _)).trans (Ins.out18_of X ?_)
    sl_unfold_words
    simp only [readAt_whole]
    rfl
  isplitl [H19]
  · iexists _; isplitr; swap; · iexact H19
    ipureintro
    refine (View.read_writes_eq_canon _ _ _ (cover_S256x512_bf16 _)).trans (Ins.out19_of X ?_)
    sl_unfold_words
    simp only [readAt_whole]
    rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  isplitl [H31]
  · iexists _, _; isplitr; swap; · iexact H31
    ipureintro; rfl
  isplitl [H32]
  · iexists _, _; isplitr; swap; · iexact H32
    ipureintro; rfl
  isplitl [H33]
  · iexists _, _; isplitr; swap; · iexact H33
    ipureintro; rfl
  iexists _, _; isplitr; swap; · iexact H34
  ipureintro; rfl

end Cert.Mix

end
-- ==== Proof.Mix.Frame.lean ====
/-
  The launch of the mixing stage's gradient: the run, and that the arguments are left unchanged.
-/
module

public import proofs.«01_k».proof.Proof.Mix.Data
public import proofs.«01_k».proof.Proof.Mix.RunA
public import proofs.«01_k».proof.Proof.Mix.RunB
public import proofs.«01_k».proof.Proof.Mix.RunC
public import Idealize.ShloMosaic.Lib.Claim

@[expose] public section

set_option maxRecDepth 16384

noncomputable section

namespace Cert.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare d)
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d)
    ∗ (∃ d, owns (c : Thread nD τ) (ms0_30 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (∃ d, owns (c : Thread nD τ) (ms0_14 t) fullShare d)
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d)
    ∗ (∃ d, owns (c : Thread nD τ) (ms0_30 t) fullShare d))

/-- The body's run at any point, whichever of the three cases it is. -/
theorem run_at (c : Dev nD) (t : Fin cfg0.N)
    (arg1 : Memref sig .tc .vmem S256x1024 .f32) (harg1 : arg1.IsWhole)
    (arg2 : Memref sig .tc .vmem S256x512 .f32) (harg2 : arg2.IsWhole)
    (arg3 : Memref sig .tc .vmem S256x512 .f32) (harg3 : arg3.IsWhole)
    (arg4 : Memref sig .tc .vmem S256x512 .f32) (harg4 : arg4.IsWhole)
    (arg5 : Memref sig .tc .vmem S256x512 .f32) (harg5 : arg5.IsWhole)
    (arg6 : Memref sig .tc .vmem S256x256 .f32) (harg6 : arg6.IsWhole)
    (arg7 : Memref sig .tc .vmem S256x1024 .f32) (harg7 : arg7.IsWhole)
    (arg8 : Memref sig .tc .vmem S512x512 .bf16) (harg8 : arg8.IsWhole)
    (arg9 : Memref sig .tc .vmem S1x512 .f32) (harg9 : arg9.IsWhole)
    (arg10 : Memref sig .tc .vmem S1024x1024 .bf16) (harg10 : arg10.IsWhole)
    (arg11 : Memref sig .tc .vmem S1x1024 .f32) (harg11 : arg11.IsWhole)
    (arg12 : Memref sig .tc .vmem S1024x1024 .bf16) (harg12 : arg12.IsWhole)
    (arg13 : Memref sig .tc .vmem S1x1024 .f32) (harg13 : arg13.IsWhole)
    (arg14 : Memref sig .tc .vmem S256x1024 .bf16) (harg14 : arg14.IsWhole)
    (arg15 : Memref sig .tc .vmem S1x1 .f32) (harg15 : arg15.IsWhole)
    (arg16 : Memref sig .tc .vmem S256x1024 .f32) (harg16 : arg16.IsWhole)
    (arg17 : Memref sig .tc .vmem S256x512 .f32) (harg17 : arg17.IsWhole)
    (arg18 : Memref sig .tc .vmem S256x512 .bf16) (harg18 : arg18.IsWhole)
    (arg19 : Memref sig .tc .vmem S256x512 .f32) (harg19 : arg19.IsWhole)
    (arg20 : Memref sig .tc .vmem S256x512 .bf16) (harg20 : arg20.IsWhole)
    (arg21 : Memref sig .tc .vmem S1x64x512 .f32) (harg21 : arg21.IsWhole)
    (arg22 : Memref sig .tc .vmem S1x512 .f32) (harg22 : arg22.IsWhole)
    (arg23 : Memref sig .tc .vmem S1x128x1024 .f32) (harg23 : arg23.IsWhole)
    (arg24 : Memref sig .tc .vmem S1x1024 .f32) (harg24 : arg24.IsWhole)
    (arg25 : Memref sig .tc .vmem S1x128x1024 .f32) (harg25 : arg25.IsWhole)
    (arg26 : Memref sig .tc .vmem S1x1024 .f32) (harg26 : arg26.IsWhole)
    (arg27 : Memref sig .tc .vmem S1x256x128 .f32) (harg27 : arg27.IsWhole)
    (arg28 : Memref sig .tc .vmem S1024x1024 .bf16) (harg28 : arg28.IsWhole)
    (arg29 : Memref sig .tc .vmem S1024x1024 .bf16) (harg29 : arg29.IsWhole)
    (arg30 : Memref sig .tc .vmem S8x256x128 .bf16) (harg30 : arg30.IsWhole)
    (arg31 : Memref sig .tc .vmem S512x512 .bf16) (harg31 : arg31.IsWhole)
    (arg32 : Memref sig .tc .vmem S512x512 .f32) (harg32 : arg32.IsWhole)
    (arg33 : Memref sig .tc .vmem S1024x1024 .f32) (harg33 : arg33.IsWhole)
    (arg34 : Memref sig .tc .vmem S1024x1024 .f32) (harg34 : arg34.IsWhole)
    (arg35 : Memref sig .tc .vmem S256x1024 .f32) (harg35 : arg35.IsWhole)
    (X : Ins F) : Spec c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 X := by
  have hN : t.val < 16 := lt_of_lt_of_eq t.isLt (show cfg0.N = 16 from N_0)
  by_cases h0 : t.val % 16 = 0
  · exact run_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => by have := (hcond0_1 t).mp h; omega) X
  · by_cases h1 : t.val % 16 = 15
    · exact run_C c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) X
    · exact run_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) X

set_option maxHeartbeats 4000000 in
/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [leaves0, leaves1, leaves2, leaves3, leaves4, leaves5, leaves6, leaves7, leaves8, leaves9, leaves10, leaves11, leaves12, leaves13, leaves15, leaves16, leaves17, leaves18, leaves19]
  iintro ⟨⟨⟨H31, H32, H33, H34⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply ((run_at c t _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ins m c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexact H31
  isplitl [H32]; · iexact H32
  isplitl [H33]; · iexact H33
  isplitl [H34]; · iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [H31 H32 H33 H34 Hg]
  · isplitl [H31 H32 H33 H34]
    · isplitl [H31]; · iexact H31
      isplitl [H32]; · iexact H32
      isplitl [H33]; · iexact H33
      iexact H34
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

-- the launch theorem's implicit arguments are found by unfolding plain definitions in a metavariable's type
set_option backward.isDefEq.respectTransparency.types false in
/-- The launch: every execution terminates, with the arrays as the proof data says and every counter at zero. -/
theorem run_main : θ_run defs (onTc (τ := τ) (main (F := F))) (s₀ m ρ) (fun r => (Pipeline.RDat.FramePost (cfgs 0) (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 2000000 in
/-- A memory in which the launch's arrays and the other buffers are as the run leaves them has the arguments unchanged. -/
theorem args_of_post {r : PUnit × MemSt nD τ sig (Elt F)} (h : Pipeline.RDat.FramePost (cfgs 0) (fun c => (dats m 0 c).toRForget fgt) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c)),
      (Pipeline.RDat.FramePost.arr_in h c 5 rfl).trans ((A_eq m c 5).trans (V_main_arg5 m c)),
      (Pipeline.RDat.FramePost.arr_in h c 6 rfl).trans ((A_eq m c 6).trans (V_main_arg6 m c)),
      ((h c).2 main_arg7 (Pipeline.mem_restRefs_of main_arg7 (by decide) (by decide))).trans (V_main_arg7 m c),
      (Pipeline.RDat.FramePost.arr_in h c 8 rfl).trans ((A_eq m c 8).trans (V_main_arg8 m c)),
      ((h c).2 main_arg9 (Pipeline.mem_restRefs_of main_arg9 (by decide) (by decide))).trans (V_main_arg9 m c),
      (Pipeline.RDat.FramePost.arr_in h c 10 rfl).trans ((A_eq m c 10).trans (V_main_arg10 m c)),
      ((h c).2 main_arg11 (Pipeline.mem_restRefs_of main_arg11 (by decide) (by decide))).trans (V_main_arg11 m c),
      (Pipeline.RDat.FramePost.arr_in h c 12 rfl).trans ((A_eq m c 12).trans (V_main_arg12 m c)),
      ((h c).2 main_arg13 (Pipeline.mem_restRefs_of main_arg13 (by decide) (by decide))).trans (V_main_arg13 m c)⟩

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => args_of_post m h.1 c, h.2⟩) (run_main m ρ)

end Cert.Mix

end
-- ==== Proof.Mix.Row.lean ====
/-
  One row of the output mixing, as functions of the row's entries and the weights: the gated unit, the mixed and normed row,
  the gate, the error, and the gradients that reach the row's inputs.
-/
module

public import Idealize.ShloMosaic.PureOps.Ideal

@[expose] public section

noncomputable section

open Idealize.ShloMosaic

namespace Cert.Mix

/-- The logistic function, as it is written. -/
def sig (z : EReal) : EReal := Ideal.div 1 (1 + Ideal.exp (-z))

/-- What one row's computation reads. -/
structure Row where
  x : Fin 1024 → EReal
  y : Fin 512 → EReal
  zs : Fin 512 → EReal
  at_ : Fin 512 → EReal
  za : Fin 512 → EReal
  p : Fin 256 → EReal
  tg : Fin 1024 → EReal
  wglu : Fin 512 → Fin 512 → EReal
  bglu : Fin 512 → EReal
  wout : Fin 1024 → Fin 1024 → EReal
  gpost : Fin 1024 → EReal
  wgate : Fin 1024 → Fin 1024 → EReal
  bgate : Fin 1024 → EReal
  wproj : Fin 256 → Fin 1024 → EReal

namespace Row

variable (R : Row)

/-- The gelu of the scan's output and the gated unit. -/
def gl (j : Fin 512) : EReal :=
  Ideal.ofBits .f32 0x3F000000#32 * R.y j
    * (1 + Ideal.tanh (Ideal.ofBits .f32 0x3F4C422A#32
        * (R.y j + Ideal.ofBits .f32 0x3D372713#32 * R.y j * R.y j * R.y j)))
def sa (j : Fin 512) : EReal := sig (∑ i, R.gl i * R.wglu i j + R.bglu j)
def glu (j : Fin 512) : EReal := R.gl j * R.sa j

/-- The two gated halves side by side, and their product with the output weights. -/
def cat (k : Fin 1024) : EReal :=
  if h : k.val < 512 then R.glu ⟨k.val, h⟩ * (R.zs ⟨k.val, h⟩ * sig (R.zs ⟨k.val, h⟩))
  else R.at_ ⟨k.val - 512, by omega⟩ * (R.za ⟨k.val - 512, by omega⟩ * sig (R.za ⟨k.val - 512, by omega⟩))
def mixed (k : Fin 1024) : EReal := ∑ j, R.cat j * R.wout j k

/-- The mean square with its ε, its reciprocal root, and the normed row. -/
def ms : EReal := Ideal.div (∑ k, R.mixed k * R.mixed k) (Ideal.ofBits .f32 0x44800000#32) + Ideal.ofBits .f32 0x358637BD#32
def rs : EReal := Ideal.rsqrt R.ms
def nhat (k : Fin 1024) : EReal := R.mixed k * R.rs

/-- The residual sum, the gate, the projected features and the error. -/
def h1 (k : Fin 1024) : EReal := R.x k + R.nhat k * R.gpost k
def gate (k : Fin 1024) : EReal := sig (∑ j, R.h1 j * R.wgate j k + R.bgate k)
def pp (k : Fin 1024) : EReal := ∑ j, R.p j * R.wproj j k
def err (k : Fin 1024) : EReal := R.h1 k + R.gate k * R.pp k - R.tg k

/-- The gradients of the last sum, of the gate's argument and of the residual sum. -/
def dh2 (k : Fin 1024) : EReal := R.err k * Ideal.ofBits .f32 0x3A800000#32
def dgp (k : Fin 1024) : EReal := R.dh2 k * R.pp k * R.gate k * (1 - R.gate k)
def dh1 (k : Fin 1024) : EReal := R.dh2 k + ∑ j, R.dgp j * R.wgate k j

/-- The gradients of the normed row, of the mixed row and of the two halves. -/
def dn (k : Fin 1024) : EReal := R.dh1 k * R.gpost k
def dmixed (k : Fin 1024) : EReal :=
  R.rs * (R.dn k - R.nhat k * Ideal.div (∑ l, R.dn l * R.nhat l) (Ideal.ofBits .f32 0x44800000#32))
def dcat (k : Fin 1024) : EReal := ∑ j, R.dmixed j * R.wout k j

/-- The gradients of the attention's output and of the two gates. -/
def dat (j : Fin 512) : EReal := R.dcat ⟨512 + j.val, by omega⟩ * (R.za j * sig (R.za j))
def dza (j : Fin 512) : EReal :=
  R.dcat ⟨512 + j.val, by omega⟩ * R.at_ j * (sig (R.za j) * (1 + R.za j * (1 - sig (R.za j))))
def dzs (j : Fin 512) : EReal :=
  R.dcat ⟨j.val, by omega⟩ * R.glu j * (sig (R.zs j) * (1 + R.zs j * (1 - sig (R.zs j))))

end Row

end Cert.Mix
-- ==== Proof.Mix.Point.lean ====
/-
  The stages of one grid point of the output mixing at an index: each is the row function of the row that it lies in.
-/
module

public import proofs.«01_k».proof.Proof.Mix.Stages
public import proofs.«01_k».proof.Proof.Mix.Row
public import Idealize.ShloMosaic.Lib.Pointwise

@[expose] public section

noncomputable section

open Idealize.ShloMosaic Idealize.ShloMosaic.TcCoe Idealize.SL.Sem

namespace Cert.Mix

open Cert.Kernel5Ideal Cert.Kernel5Ideal.Gen

/-- The row `r` of what one grid point reads. -/
def Ins.row (X : Ins Ideal) (r : Fin 256) : Row where
  x := fun k => X.x (ix2 r k)
  y := fun k => X.y (ix2 r k)
  zs := fun k => X.zs (ix2 r k)
  at_ := fun k => X.at_ (ix2 r k)
  za := fun k => X.za (ix2 r k)
  p := fun k => X.p (ix2 r k)
  tg := fun k => X.tg (ix2 r k)
  wglu := fun i j => X.wglu (ix2 i j)
  bglu := fun j => X.bglu (ix2 0 j)
  wout := fun i j => X.wout (ix2 i j)
  gpost := fun j => X.gpost (ix2 0 j)
  wgate := fun i j => X.wgate (ix2 i j)
  bgate := fun j => X.bgate (ix2 0 j)
  wproj := fun i j => X.wproj (ix2 i j)

variable (X : Ins Ideal) (r : Fin 256)

theorem pay29_at (y : Vec Ideal S256x512 .f32) (j : Fin 512) : k0_pay29 (F := Ideal) y (ix2 r j)
    = Ideal.ofBits .f32 0x3F000000#32 * y (ix2 r j) * (1 + Ideal.tanh (Ideal.ofBits .f32 0x3F4C422A#32
        * (y (ix2 r j) + Ideal.ofBits .f32 0x3D372713#32 * y (ix2 r j) * y (ix2 r j) * y (ix2 r j)))) := by
  pointwise [k0_pay29, k0_pay28]

theorem gl_at (j : Fin 512) : X.gl (ix2 r j) = (X.row r).gl j := pay29_at r X.y j

theorem sa_at (j : Fin 512) : X.sa (ix2 r j) = (X.row r).sa j := by
  have h : ∀ i, k0_pay29 (F := Ideal) X.y (ix2 r i) = (X.row r).gl i := fun i => gl_at X r i
  unfold Ins.sa k0_pay30 Row.sa sig
  generalize k0_pay29 X.y = g at h
  simp only [← h]
  pointwise
  rw [zero_sub]
  rfl

theorem glu_at (j : Fin 512) : X.glu (ix2 r j) = (X.row r).glu j := by
  have h := gl_at X r j
  have h' := sa_at X r j
  unfold Ins.gl at h
  unfold Ins.sa at h'
  unfold Ins.glu k0_pay31 Row.glu
  rw [← h, ← h']
  generalize k0_pay29 X.y = g
  generalize k0_pay30 X.y X.wglu X.bglu = s
  pointwise

theorem sgs_at (j : Fin 512) : X.sgs (ix2 r j) = sig (X.zs (ix2 r j)) := by
  unfold Ins.sgs sig
  pointwise [k0_pay33, k0_pay32]
  rw [zero_sub]

theorem sga_at (j : Fin 512) : X.sga (ix2 r j) = sig (X.za (ix2 r j)) := by
  unfold Ins.sga sig
  pointwise [k0_pay34]
  rw [zero_sub]

theorem cat_at (j : Fin 1024) :
    k0_pay35 (F := Ideal) X.glu X.zs (k0_pay32 X.zs) X.za X.at_ (ix2 r j) = (X.row r).cat j := by
  have h := fun j => glu_at X r j
  have h1 := fun j => sgs_at X r j
  have h2 := fun j => sga_at X r j
  unfold Ins.sgs at h1
  unfold Ins.sga at h2
  unfold k0_pay35 Row.cat
  generalize X.glu = g at h
  generalize k0_pay33 (k0_pay32 X.zs) = s at h1
  generalize k0_pay34 X.za = s' at h2
  simp only [← h]
  pointwise
  simp only [h1, h2]
  rfl

/-- The product of the two gated halves with the output weights. -/
def Ins.mixed : FVec Ideal S256x1024 .f32 := k0_pay36 X.glu X.zs (k0_pay32 X.zs) X.za X.at_ X.wout

theorem mixed_at (k : Fin 1024) : X.mixed (ix2 r k) = (X.row r).mixed k := by
  have h := fun j => cat_at X r j
  unfold Ins.mixed k0_pay36 Row.mixed
  generalize k0_pay35 X.glu X.zs (k0_pay32 X.zs) X.za X.at_ = c at h
  simp only [← h]
  pointwise
  rfl

theorem rs_at (z : Fin 1) : X.r2 (ix2 r z) = (X.row r).rs := by
  have h := fun j => mixed_at X r j
  unfold Ins.mixed at h
  unfold Ins.r2 k0_pay37 Row.rs Row.ms
  generalize k0_pay36 X.glu X.zs (k0_pay32 X.zs) X.za X.at_ X.wout = c at h
  simp only [← h]
  pointwise

theorem nhat_at (k : Fin 1024) : X.nhat (ix2 r k) = (X.row r).nhat k := by
  have h := fun j => mixed_at X r j
  have h' := rs_at X r 0
  unfold Ins.mixed at h
  unfold Ins.r2 at h'
  unfold Ins.nhat k0_pay38 Row.nhat
  generalize k0_pay36 X.glu X.zs (k0_pay32 X.zs) X.za X.at_ X.wout = c at h
  generalize k0_pay37 X.glu X.zs (k0_pay32 X.zs) X.za X.at_ X.wout = d at h'
  rw [← h, ← h']
  pointwise

theorem h1_at (k : Fin 1024) : X.h1 (ix2 r k) = (X.row r).h1 k := by
  have h := fun j => nhat_at X r j
  unfold Ins.nhat at h
  unfold Ins.h1 k0_pay39 Row.h1
  generalize k0_pay38 X.glu X.zs (k0_pay32 X.zs) X.za X.at_ X.wout = c at h
  rw [← h]
  pointwise
  rfl

theorem gate_at (k : Fin 1024) : k0_pay41 (F := Ideal) X.gp X.bgate (ix2 r k) = (X.row r).gate k := by
  have h := fun j => h1_at X r j
  unfold Ins.h1 at h
  unfold Ins.gp k0_pay41 k0_pay40 Row.gate sig
  generalize k0_pay39 X.gpost X.glu X.zs (k0_pay32 X.zs) X.za X.at_ X.wout X.x = c at h
  simp only [← h]
  pointwise
  rw [zero_sub]
  rfl

theorem pp_at (k : Fin 1024) : k0_pay42 (F := Ideal) X.p X.wproj (ix2 r k) = (X.row r).pp k := by
  unfold Row.pp
  pointwise [k0_pay42]
  rfl

theorem err_at (k : Fin 1024) :
    k0_pay43 (F := Ideal) X.h1 X.gp X.bgate X.p X.wproj X.tg (ix2 r k) = (X.row r).err k := by
  unfold Row.err k0_pay43
  rw [← gate_at, ← pp_at, ← h1_at]
  generalize k0_pay41 X.gp X.bgate = a
  generalize k0_pay42 X.p X.wproj = b
  generalize X.h1 = c
  pointwise
  rfl

theorem dh2_at (k : Fin 1024) :
    k0_pay45 (F := Ideal) X.h1 X.gp X.bgate X.p X.wproj X.tg (ix2 r k) = (X.row r).dh2 k := by
  unfold Row.dh2 k0_pay45
  rw [← err_at]
  generalize k0_pay43 X.h1 X.gp X.bgate X.p X.wproj X.tg = a
  pointwise

theorem dgp_at (k : Fin 1024) :
    k0_pay46 (F := Ideal) X.h1 X.gp X.bgate X.p X.wproj X.tg (ix2 r k) = (X.row r).dgp k := by
  unfold Row.dgp k0_pay46
  rw [← dh2_at, ← pp_at, ← gate_at]
  generalize k0_pay45 X.h1 X.gp X.bgate X.p X.wproj X.tg = a
  generalize k0_pay41 X.gp X.bgate = c
  generalize k0_pay42 X.p X.wproj = b
  pointwise

theorem dh1_at (k : Fin 1024) : X.dh1 (ix2 r k) = (X.row r).dh1 k := by
  have h := fun j => dgp_at X r j
  unfold Row.dh1 Ins.dh1 k0_pay48
  rw [← dh2_at]
  simp only [← h]
  generalize k0_pay45 X.h1 X.gp X.bgate X.p X.wproj X.tg = a
  generalize k0_pay46 X.h1 X.gp X.bgate X.p X.wproj X.tg = b
  pointwise
  rfl

theorem dmixed_at (k : Fin 1024) :
    k0_pay51 (F := Ideal) X.gpost X.r2 X.nhat X.dh1 (ix2 r k) = (X.row r).dmixed k := by
  have h := fun j => dh1_at X r j
  have h' := fun j => nhat_at X r j
  unfold Row.dmixed Row.dn k0_pay51
  rw [← rs_at X r 0]
  simp only [← h, ← h']
  generalize X.r2 = a
  generalize X.nhat = b
  generalize X.dh1 = c
  pointwise
  rfl

theorem dcat_at (k : Fin 1024) : X.dcat (ix2 r k) = (X.row r).dcat k := by
  have h := fun j => dmixed_at X r j
  unfold Row.dcat Ins.dcat k0_pay52
  simp only [← h]
  generalize k0_pay51 X.gpost X.r2 X.nhat X.dh1 = a
  pointwise
  rfl

theorem dat_at (j : Fin 512) : X.dat (ix2 r j) = (X.row r).dat j := by
  unfold Row.dat Ins.dat k0_pay57 k0_pay56
  rw [← dcat_at]
  have h := sga_at X r j
  generalize X.dcat = c
  generalize X.sga = s at h
  pointwise
  rw [h]
  rfl

theorem dza_at (j : Fin 512) : X.dza (ix2 r j) = (X.row r).dza j := by
  unfold Row.dza Ins.dza k0_pay58 k0_pay56
  rw [← dcat_at]
  have h := sga_at X r j
  generalize X.dcat = c
  generalize X.sga = s at h
  pointwise
  rw [h]
  rfl

theorem dzs_at (j : Fin 512) : X.dzs (ix2 r j) = (X.row r).dzs j := by
  unfold Row.dzs Ins.dzs k0_pay59 k0_pay55
  rw [← dcat_at, ← glu_at]
  have h := sgs_at X r j
  generalize X.dcat = c
  generalize X.glu = g
  generalize X.sgs = s at h
  pointwise
  rw [h]
  rfl

end Cert.Mix
-- ==== Proof.Mix.Ref.lean ====
/-
  What the reference of the output mixing computes, entry by entry: the derivative of the written forward lines, read stage
  by stage as the row functions of the row that an entry lies in.
-/
module

public import proofs.«01_k».proof.Proof.Gen.Reference5Ideal.Read
public import proofs.«01_k».proof.Proof.Mix.Row
public import proofs.«01_k».proof.Proof.In.Identity
public import Idealize.ShloMosaic.Lib.Pointwise

@[expose] public section

noncomputable section

open Idealize.ShloMosaic Idealize.ShloMosaic.TcCoe Idealize.SL.Sem

namespace Cert.Mix

open Cert.Reference5Ideal Cert.Reference5Ideal.Gen Cert.Reference5Ideal.Read

/-- The reference's arguments. -/
structure Args where
  x : Vec Ideal S4096x1024 .f32
  y : Vec Ideal S4096x512 .f32
  zs : Vec Ideal S4096x512 .f32
  at_ : Vec Ideal S4096x512 .f32
  za : Vec Ideal S4096x512 .f32
  p : Vec Ideal S4096x256 .f32
  tg : Vec Ideal S4096x1024 .f32
  wglu : Vec Ideal S512x512 .f32
  bglu : Vec Ideal S1x512 .f32
  wout : Vec Ideal S1024x1024 .f32
  gpost : Vec Ideal S1x1024 .f32
  wgate : Vec Ideal S1024x1024 .f32
  bgate : Vec Ideal S1x1024 .f32
  wproj : Vec Ideal S256x1024 .f32

namespace Args

variable (A : Args)

/-- The row `n` of the arguments. -/
def row (n : Fin 4096) : Row where
  x := fun k => A.x (ix2 n k)
  y := fun k => A.y (ix2 n k)
  zs := fun k => A.zs (ix2 n k)
  at_ := fun k => A.at_ (ix2 n k)
  za := fun k => A.za (ix2 n k)
  p := fun k => A.p (ix2 n k)
  tg := fun k => A.tg (ix2 n k)
  wglu := fun i j => A.wglu (ix2 i j)
  bglu := fun j => A.bglu (ix2 0 j)
  wout := fun i j => A.wout (ix2 i j)
  gpost := fun j => A.gpost (ix2 0 j)
  wgate := fun i j => A.wgate (ix2 i j)
  bgate := fun j => A.bgate (ix2 0 j)
  wproj := fun i j => A.wproj (ix2 i j)

/-! The reference's stages on these arguments. -/

abbrev v12 : Vec Ideal S4096x512 .f32 := val_main_v12 (F := Ideal) A.y
abbrev v21 : Vec Ideal S4096x512 .f32 := val_main_v21 (F := Ideal) A.y A.wglu A.bglu
abbrev v22 : Vec Ideal S4096x512 .f32 := val_main_v22 (F := Ideal) A.y A.wglu A.bglu
abbrev v23_2 : Vec Ideal S4096x512 .f32 := val_main_v23_2 (F := Ideal) A.zs
abbrev v23_1 : Vec Ideal S4096x512 .f32 := val_main_v23_1 (F := Ideal) A.zs
abbrev v23_0 : Vec Ideal S4096x512 .f32 := val_main_v23_0 (F := Ideal) A.zs
abbrev v25_2 : Vec Ideal S4096x512 .f32 := val_main_v25_2 (F := Ideal) A.za
abbrev v25_1 : Vec Ideal S4096x512 .f32 := val_main_v25_1 (F := Ideal) A.za
abbrev v25_0 : Vec Ideal S4096x512 .f32 := val_main_v25_0 (F := Ideal) A.za
abbrev v27 : Vec Ideal S4096x1024 .f32 := val_main_v27 (F := Ideal) A.y A.zs A.at_ A.za A.wglu A.bglu
abbrev v28 : Vec Ideal S4096x1024 .f32 := val_main_v28 (F := Ideal) A.y A.zs A.at_ A.za A.wglu A.bglu A.wout
abbrev v35 : Vec Ideal S4096x1 .f32 := val_main_v35 (F := Ideal) A.y A.zs A.at_ A.za A.wglu A.bglu A.wout
abbrev v36 : Vec Ideal S4096x1 .f32 := val_main_v36 (F := Ideal) A.y A.zs A.at_ A.za A.wglu A.bglu A.wout
abbrev v41 : Vec Ideal S4096x1024 .f32 := val_main_v41 (F := Ideal) A.y A.zs A.at_ A.za A.wglu A.bglu A.wout
abbrev v44 : Vec Ideal S4096x1024 .f32 := val_main_v44 (F := Ideal) A.x A.y A.zs A.at_ A.za A.wglu A.bglu A.wout A.gpost
abbrev v53 : Vec Ideal S4096x1024 .f32 := val_main_v53 (F := Ideal) A.x A.y A.zs A.at_ A.za A.wglu A.bglu A.wout A.gpost A.wgate A.bgate
abbrev v57 : Vec Ideal S4096x1024 .f32 := val_main_v57 (F := Ideal) A.p A.wproj
abbrev v60 : Vec Ideal S4096x1024 .f32 := val_main_v60 (F := Ideal) A.x A.y A.zs A.at_ A.za A.p A.tg A.wglu A.bglu A.wout A.gpost A.wgate A.bgate A.wproj
abbrev v74 : Vec Ideal S4096x1024 .f32 := val_main_v74 (F := Ideal) A.x A.y A.zs A.at_ A.za A.p A.tg A.wglu A.bglu A.wout A.gpost A.wgate A.bgate A.wproj
abbrev v76 : Vec Ideal S4096x1024 .f32 := val_main_v76 (F := Ideal) A.x A.y A.zs A.at_ A.za A.p A.tg A.wglu A.bglu A.wout A.gpost A.wgate A.bgate A.wproj
abbrev v78 : Vec Ideal S4096x1024 .f32 := val_main_v78 (F := Ideal) A.x A.y A.zs A.at_ A.za A.p A.tg A.wglu A.bglu A.wout A.gpost A.wgate A.bgate A.wproj
abbrev v80 : Vec Ideal S4096x1024 .f32 := val_main_v80 (F := Ideal) A.x A.y A.zs A.at_ A.za A.p A.tg A.wglu A.bglu A.wout A.gpost A.wgate A.bgate A.wproj
abbrev v90 : Vec Ideal S4096x1024 .f32 := val_main_v90 (F := Ideal) A.x A.y A.zs A.at_ A.za A.p A.tg A.wglu A.bglu A.wout A.gpost A.wgate A.bgate A.wproj
abbrev v94 : Vec Ideal S4096x1024 .f32 := val_main_v94 (F := Ideal) A.x A.y A.zs A.at_ A.za A.p A.tg A.wglu A.bglu A.wout A.gpost A.wgate A.bgate A.wproj
abbrev v95 : Vec Ideal S4096x1024 .f32 := val_main_v95 (F := Ideal) A.x A.y A.zs A.at_ A.za A.p A.tg A.wglu A.bglu A.wout A.gpost A.wgate A.bgate A.wproj
abbrev v96 : Vec Ideal S4096x512 .f32 := val_main_v96 (F := Ideal) A.x A.y A.zs A.at_ A.za A.p A.tg A.wglu A.bglu A.wout A.gpost A.wgate A.bgate A.wproj
abbrev v97 : Vec Ideal S4096x512 .f32 := val_main_v97 (F := Ideal) A.x A.y A.zs A.at_ A.za A.p A.tg A.wglu A.bglu A.wout A.gpost A.wgate A.bgate A.wproj
abbrev v99 : Vec Ideal S4096x512 .f32 := val_main_v99 (F := Ideal) A.x A.y A.zs A.at_ A.za A.p A.tg A.wglu A.bglu A.wout A.gpost A.wgate A.bgate A.wproj
abbrev v100 : Vec Ideal S4096x512 .f32 := val_main_v100 (F := Ideal) A.x A.y A.zs A.at_ A.za A.p A.tg A.wglu A.bglu A.wout A.gpost A.wgate A.bgate A.wproj
abbrev v102 : Vec Ideal S4096x512 .f32 := val_main_v102 (F := Ideal) A.x A.y A.zs A.at_ A.za A.p A.tg A.wglu A.bglu A.wout A.gpost A.wgate A.bgate A.wproj
abbrev v103 : Vec Ideal S4096x512 .bf16 := val_main_v103 (F := Ideal) A.x A.y A.zs A.at_ A.za A.p A.tg A.wglu A.bglu A.wout A.gpost A.wgate A.bgate A.wproj
abbrev v104 : Vec Ideal S4096x512 .bf16 := val_main_v104 (F := Ideal) A.x A.y A.zs A.at_ A.za A.p A.tg A.wglu A.bglu A.wout A.gpost A.wgate A.bgate A.wproj

end Args

variable (A : Args) (n : Fin 4096)

theorem lit_onehalf : Ideal.ofBits .f32 0x3F000000#32 = ((1/2 : ℝ) : EReal) := by
  simp [Ideal.ofBits, Ideal.ieee]; rw [← EReal.coe_mul]; norm_num
theorem lit_two : Ideal.ofBits .f32 0x40000000#32 = ((2 : ℝ) : EReal) := by
  simp [Ideal.ofBits, Ideal.ieee]; rw [← EReal.coe_mul]; norm_num
theorem lit_2m10 : Ideal.ofBits .f32 0x3A800000#32 = ((1/1024 : ℝ) : EReal) := by
  simp [Ideal.ofBits, Ideal.ieee]; rw [← EReal.coe_mul]; norm_num

theorem v12_at (j : Fin 512) : A.v12 (ix2 n j) = (A.row n).gl j := by
  unfold Args.v12 Row.gl
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  have h : (A.row n).y j = A.y (ix2 n j) := rfl
  rw [h]
  simp only [mul_assoc]
  exact mul_left_comm _ _ _

theorem v21_at (j : Fin 512) : A.v21 (ix2 n j) = (A.row n).sa j := by
  have h := v12_at A n
  unfold Args.v21 val_main_v21 val_main_v20 val_main_v19 val_main_v18 val_main_v17 val_main_v16 val_main_v15 val_main_v14
    val_main_v13 val_main_cst_3 val_main_cst_4 Row.sa sig
  unfold Args.v12 at h
  generalize val_main_v12 (F := Ideal) A.y = c at h
  simp only [← h]
  pointwise
  rfl

theorem v22_at (j : Fin 512) : A.v22 (ix2 n j) = (A.row n).glu j := by
  unfold Args.v22 Row.glu
  rw [← v12_at, ← v21_at]
  pointwise [val_main_v22]

theorem v23_2_at (j : Fin 512) : A.v23_2 (ix2 n j) = sig (A.zs (ix2 n j)) := by
  unfold Args.v23_2 sig
  pointwise [val_main_v23_2, val_main_call0_v4, val_main_call0_v3, val_main_call0_v2, val_main_call0_v1, val_main_call0_v0,
    val_main_call0_cst, val_main_call0_cst_0]

theorem v25_2_at (j : Fin 512) : A.v25_2 (ix2 n j) = sig (A.za (ix2 n j)) := by
  unfold Args.v25_2 sig
  pointwise [val_main_v25_2, val_main_call1_v4, val_main_call1_v3, val_main_call1_v2, val_main_call1_v1, val_main_call1_v0,
    val_main_call1_cst, val_main_call1_cst_0]

theorem v23_1_at (j : Fin 512) : A.v23_1 (ix2 n j) = sig (A.zs (ix2 n j)) * (1 - sig (A.zs (ix2 n j))) := by
  rw [← v23_2_at]
  unfold Args.v23_1 val_main_v23_1 val_main_call0_v7 val_main_call0_v6 val_main_call0_cst_1 Args.v23_2
  generalize val_main_v23_2 (F := Ideal) A.zs = c
  pointwise

theorem v25_1_at (j : Fin 512) : A.v25_1 (ix2 n j) = sig (A.za (ix2 n j)) * (1 - sig (A.za (ix2 n j))) := by
  rw [← v25_2_at]
  unfold Args.v25_1 val_main_v25_1 val_main_call1_v7 val_main_call1_v6 val_main_call1_cst_1 Args.v25_2
  generalize val_main_v25_2 (F := Ideal) A.za = c
  pointwise

theorem v23_0_at (j : Fin 512) : A.v23_0 (ix2 n j) = A.zs (ix2 n j) * sig (A.zs (ix2 n j)) := by
  rw [← v23_2_at]
  unfold Args.v23_0 val_main_v23_0 Args.v23_2
  generalize val_main_v23_2 (F := Ideal) A.zs = c
  pointwise

theorem v25_0_at (j : Fin 512) : A.v25_0 (ix2 n j) = A.za (ix2 n j) * sig (A.za (ix2 n j)) := by
  rw [← v25_2_at]
  unfold Args.v25_0 val_main_v25_0 Args.v25_2
  generalize val_main_v25_2 (F := Ideal) A.za = c
  pointwise

theorem v27_at (k : Fin 1024) : A.v27 (ix2 n k) = (A.row n).cat k := by
  have h1 := v22_at A n
  have h2 := v23_0_at A n
  have h3 := v25_0_at A n
  unfold Args.v27 val_main_v27 val_main_v26 val_main_v24 Row.cat
  unfold Args.v22 at h1
  unfold Args.v23_0 at h2
  unfold Args.v25_0 at h3
  generalize val_main_v22 (F := Ideal) A.y A.wglu A.bglu = c at h1
  generalize val_main_v23_0 (F := Ideal) A.zs = d at h2
  generalize val_main_v25_0 (F := Ideal) A.za = e at h3
  simp only [← h1]
  pointwise
  simp only [h2, h3]
  rfl

theorem v28_at (k : Fin 1024) : A.v28 (ix2 n k) = (A.row n).mixed k := by
  have h := v27_at A n
  unfold Args.v28 val_main_v28 Row.mixed
  unfold Args.v27 at h
  generalize val_main_v27 (F := Ideal) A.y A.zs A.at_ A.za A.wglu A.bglu = c at h
  simp only [← h]
  pointwise
  rfl

theorem v35_at (z : Fin 1) : A.v35 (ix2 n z) = (A.row n).ms := by
  have h := v28_at A n
  unfold Args.v35 val_main_v35 val_main_v34 val_main_v33 val_main_v32 val_main_v31 val_main_v30 val_main_v29 val_main_cst_5
    val_main_cst_6 val_main_cst_7 Row.ms
  unfold Args.v28 at h
  generalize val_main_v28 (F := Ideal) A.y A.zs A.at_ A.za A.wglu A.bglu A.wout = c at h
  simp only [← h]
  pointwise

theorem v36_at (z : Fin 1) : A.v36 (ix2 n z) = (A.row n).rs := by
  have h := v35_at A n z
  unfold Args.v36 val_main_v36 Row.rs
  unfold Args.v35 at h
  generalize val_main_v35 (F := Ideal) A.y A.zs A.at_ A.za A.wglu A.bglu A.wout = c at h
  rw [← h]
  pointwise

theorem v41_at (k : Fin 1024) : A.v41 (ix2 n k) = (A.row n).nhat k := by
  have h := v28_at A n k
  have h' := v36_at A n 0
  unfold Args.v41 val_main_v41 val_main_v40 Row.nhat
  unfold Args.v28 at h
  unfold Args.v36 at h'
  generalize val_main_v28 (F := Ideal) A.y A.zs A.at_ A.za A.wglu A.bglu A.wout = c at h
  generalize val_main_v36 (F := Ideal) A.y A.zs A.at_ A.za A.wglu A.bglu A.wout = d at h'
  rw [← h, ← h']
  pointwise

theorem v44_at (k : Fin 1024) : A.v44 (ix2 n k) = (A.row n).h1 k := by
  have h := v41_at A n k
  unfold Args.v44 val_main_v44 val_main_v43 val_main_v42 Row.h1
  unfold Args.v41 at h
  generalize val_main_v41 (F := Ideal) A.y A.zs A.at_ A.za A.wglu A.bglu A.wout = c at h
  rw [← h]
  pointwise
  rfl

theorem v53_at (k : Fin 1024) : A.v53 (ix2 n k) = (A.row n).gate k := by
  have h := v44_at A n
  unfold Args.v53 val_main_v53 val_main_v52 val_main_v51 val_main_v50 val_main_v49 val_main_v48 val_main_v47 val_main_v46
    val_main_v45 val_main_cst_9 val_main_cst_10 Row.gate sig
  unfold Args.v44 at h
  generalize val_main_v44 (F := Ideal) A.x A.y A.zs A.at_ A.za A.wglu A.bglu A.wout A.gpost = c at h
  simp only [← h]
  pointwise
  rfl

theorem v57_at (k : Fin 1024) : A.v57 (ix2 n k) = (A.row n).pp k := by
  unfold Args.v57 Row.pp
  pointwise [val_main_v57]
  rfl

theorem v60_at (k : Fin 1024) : A.v60 (ix2 n k) = (A.row n).err k := by
  have h := v44_at A n k
  have h1 := v53_at A n k
  have h2 := v57_at A n k
  unfold Args.v60 val_main_v60 val_main_v59 val_main_v58 Row.err
  unfold Args.v44 at h
  unfold Args.v53 at h1
  unfold Args.v57 at h2
  generalize val_main_v44 (F := Ideal) A.x A.y A.zs A.at_ A.za A.wglu A.bglu A.wout A.gpost = c at h
  generalize val_main_v53 (F := Ideal) A.x A.y A.zs A.at_ A.za A.wglu A.bglu A.wout A.gpost A.wgate A.bgate = d at h1
  generalize val_main_v57 (F := Ideal) A.p A.wproj = e at h2
  rw [← h, ← h1, ← h2]
  pointwise
  rfl

theorem v74_at (k : Fin 1024) : A.v74 (ix2 n k) = (A.row n).dh2 k := by
  have h := v60_at A n k
  unfold Args.v74 val_main_v74 val_main_v73 val_main_v72 val_main_v71 val_main_v70 val_main_v69 val_main_v63 val_main_v62
    val_main_cst_12 val_main_cst_17 val_main_cst_18 val_main_cst_19 Row.dh2
  unfold Args.v60 at h
  generalize val_main_v60 (F := Ideal) A.x A.y A.zs A.at_ A.za A.p A.tg A.wglu A.bglu A.wout A.gpost A.wgate A.bgate A.wproj = c at h
  rw [← h]
  pointwise
  rw [InBack.lit_len, lit_two, lit_2m10, lit_onehalf, Ideal.div_coe (by norm_num), ← mul_assoc, ← EReal.coe_mul, ← EReal.coe_mul,
    mul_comm]
  congr 2
  norm_num

theorem v76_at (k : Fin 1024) : A.v76 (ix2 n k) = (A.row n).dgp k := by
  have h := v74_at A n k
  have h1 := v53_at A n k
  have h2 := v57_at A n k
  unfold Args.v76 val_main_v76 val_main_v75 val_main_v56 val_main_v55 val_main_v54 val_main_cst_11 Row.dgp
  unfold Args.v74 at h
  unfold Args.v53 at h1
  unfold Args.v57 at h2
  generalize val_main_v74 (F := Ideal) A.x A.y A.zs A.at_ A.za A.p A.tg A.wglu A.bglu A.wout A.gpost A.wgate A.bgate A.wproj = c at h
  generalize val_main_v53 (F := Ideal) A.x A.y A.zs A.at_ A.za A.wglu A.bglu A.wout A.gpost A.wgate A.bgate = d at h1
  generalize val_main_v57 (F := Ideal) A.p A.wproj = e at h2
  rw [← h, ← h1, ← h2]
  pointwise
  exact (mul_assoc _ _ _).symm

theorem v78_at (k : Fin 1024) : A.v78 (ix2 n k) = (A.row n).dh1 k := by
  have h := v74_at A n k
  have h1 := v76_at A n
  unfold Args.v78 val_main_v78 val_main_v77 Row.dh1
  unfold Args.v74 at h
  unfold Args.v76 at h1
  generalize val_main_v74 (F := Ideal) A.x A.y A.zs A.at_ A.za A.p A.tg A.wglu A.bglu A.wout A.gpost A.wgate A.bgate A.wproj = c at h
  generalize val_main_v76 (F := Ideal) A.x A.y A.zs A.at_ A.za A.p A.tg A.wglu A.bglu A.wout A.gpost A.wgate A.bgate A.wproj = d at h1
  rw [← h]
  simp only [← h1]
  pointwise
  rfl

theorem v80_at (k : Fin 1024) : A.v80 (ix2 n k) = (A.row n).dn k := by
  have h := v78_at A n k
  unfold Args.v80 val_main_v80 val_main_v79 Row.dn
  unfold Args.v78 at h
  generalize val_main_v78 (F := Ideal) A.x A.y A.zs A.at_ A.za A.p A.tg A.wglu A.bglu A.wout A.gpost A.wgate A.bgate A.wproj = c at h
  rw [← h]
  pointwise
  rfl

/-- The gradient that reaches each square of the mixed row through its mean square. -/
theorem v90_at (k : Fin 1024) : A.v90 (ix2 n k)
    = InBack.Ref.meanGrad (A.row n).mixed (A.row n).dn (A.row n).rs (A.row n).ms := by
  have h := v28_at A n
  have h1 := v80_at A n
  have h2 := v36_at A n 0
  have h3 := v35_at A n 0
  unfold Args.v90 val_main_v90 val_main_v89 val_main_v88 val_main_v87 val_main_v86 val_main_v83 val_main_v82 val_main_v81
    val_main_v39 val_main_v38 val_main_v37 val_main_cst_8 val_main_cst_20 val_main_cst_21 val_main_cst_22 InBack.Ref.meanGrad
  unfold Args.v28 at h
  unfold Args.v80 at h1
  unfold Args.v36 at h2
  unfold Args.v35 at h3
  generalize val_main_v28 (F := Ideal) A.y A.zs A.at_ A.za A.wglu A.bglu A.wout = c at h
  generalize val_main_v80 (F := Ideal) A.x A.y A.zs A.at_ A.za A.p A.tg A.wglu A.bglu A.wout A.gpost A.wgate A.bgate A.wproj = d at h1
  generalize val_main_v36 (F := Ideal) A.y A.zs A.at_ A.za A.wglu A.bglu A.wout = e at h2
  generalize val_main_v35 (F := Ideal) A.y A.zs A.at_ A.za A.wglu A.bglu A.wout = f at h3
  rw [← h2, ← h3]
  simp only [← h, ← h1]
  pointwise
  exact Fin.sum_univ_one _

theorem v94_at (k : Fin 1024) : A.v94 (ix2 n k)
    = (A.row n).dn k * (A.row n).rs + (A.row n).mixed k * A.v90 (ix2 n k) + A.v90 (ix2 n k) * (A.row n).mixed k := by
  have h := v28_at A n k
  have h1 := v80_at A n k
  have h2 := v36_at A n 0
  unfold Args.v94 val_main_v94 val_main_v93 val_main_v92 val_main_v91 val_main_v85 val_main_v84 Args.v90
  unfold Args.v28 at h
  unfold Args.v80 at h1
  unfold Args.v36 at h2
  generalize val_main_v28 (F := Ideal) A.y A.zs A.at_ A.za A.wglu A.bglu A.wout = c at h
  generalize val_main_v80 (F := Ideal) A.x A.y A.zs A.at_ A.za A.p A.tg A.wglu A.bglu A.wout A.gpost A.wgate A.bgate A.wproj = d at h1
  generalize val_main_v36 (F := Ideal) A.y A.zs A.at_ A.za A.wglu A.bglu A.wout = e at h2
  generalize val_main_v90 (F := Ideal) A.x A.y A.zs A.at_ A.za A.p A.tg A.wglu A.bglu A.wout A.gpost A.wgate A.bgate A.wproj = f
  rw [← h, ← h1, ← h2]
  pointwise

theorem v95_at (k : Fin 1024) : A.v95 (ix2 n k) = ∑ j, A.v94 (ix2 n j) * A.wout (ix2 k j) := by
  unfold Args.v95 val_main_v95 Args.v94
  generalize val_main_v94 (F := Ideal) A.x A.y A.zs A.at_ A.za A.p A.tg A.wglu A.bglu A.wout A.gpost A.wgate A.bgate A.wproj = c
  pointwise

theorem v99_at (j : Fin 512) : A.v99 (ix2 n j) = A.v95 (ix2 n ⟨512 + j.val, by omega⟩) * (A.za (ix2 n j) * sig (A.za (ix2 n j))) := by
  have h := v25_0_at A n j
  unfold Args.v99 val_main_v99 val_main_v97 Args.v95
  unfold Args.v25_0 at h
  generalize val_main_v95 (F := Ideal) A.x A.y A.zs A.at_ A.za A.p A.tg A.wglu A.bglu A.wout A.gpost A.wgate A.bgate A.wproj = c
  generalize val_main_v25_0 (F := Ideal) A.za = d at h
  rw [← h]
  pointwise

theorem v104_at (j : Fin 512) : A.v104 (ix2 n j)
    = A.at_ (ix2 n j) * A.v95 (ix2 n ⟨512 + j.val, by omega⟩) * sig (A.za (ix2 n j))
      + A.za (ix2 n j) * (A.at_ (ix2 n j) * A.v95 (ix2 n ⟨512 + j.val, by omega⟩))
        * (sig (A.za (ix2 n j)) * (1 - sig (A.za (ix2 n j)))) := by
  have h := v25_1_at A n j
  have h' := v25_2_at A n j
  unfold Args.v104 val_main_v104 val_main_v100 val_main_call2_v2 val_main_call2_v1 val_main_call2_v0 val_main_v98 val_main_v97
    Args.v95
  unfold Args.v25_1 at h
  unfold Args.v25_2 at h'
  generalize val_main_v95 (F := Ideal) A.x A.y A.zs A.at_ A.za A.p A.tg A.wglu A.bglu A.wout A.gpost A.wgate A.bgate A.wproj = c
  generalize val_main_v25_1 (F := Ideal) A.za = d at h
  generalize val_main_v25_2 (F := Ideal) A.za = e at h'
  rw [← h, ← h']
  pointwise

theorem v103_at (j : Fin 512) : A.v103 (ix2 n j)
    = (A.row n).glu j * A.v95 (ix2 n ⟨j.val, by omega⟩) * sig (A.zs (ix2 n j))
      + A.zs (ix2 n j) * ((A.row n).glu j * A.v95 (ix2 n ⟨j.val, by omega⟩))
        * (sig (A.zs (ix2 n j)) * (1 - sig (A.zs (ix2 n j)))) := by
  have h := v23_1_at A n j
  have h' := v23_2_at A n j
  have h1 := v22_at A n j
  unfold Args.v103 val_main_v103 val_main_v102 val_main_call3_v2 val_main_call3_v1 val_main_call3_v0 val_main_v101 val_main_v96
    Args.v95
  unfold Args.v23_1 at h
  unfold Args.v23_2 at h'
  unfold Args.v22 at h1
  generalize val_main_v95 (F := Ideal) A.x A.y A.zs A.at_ A.za A.p A.tg A.wglu A.bglu A.wout A.gpost A.wgate A.bgate A.wproj = c
  generalize val_main_v23_1 (F := Ideal) A.zs = d at h
  generalize val_main_v23_2 (F := Ideal) A.zs = e at h'
  generalize val_main_v22 (F := Ideal) A.y A.wglu A.bglu = g at h1
  rw [← h, ← h', ← h1]
  pointwise

end Cert.Mix
-- ==== Proof.Mix.Block.lean ====
/-
  The mixing stage's gradient, one block of rows at a time: what the windows bring in, and the four result arrays read at
  an entry as row functions of the row of the arguments that the entry lies in.
-/
module

public import proofs.«01_k».proof.Proof.Mix.Data
public import proofs.«01_k».proof.Proof.Mix.Point
public import proofs.«01_k».proof.Proof.Mix.Ref
public import Idealize.ShloMosaic.Lib.StableHlo.ReadAt

@[expose] public section

noncomputable section

open Idealize.ShloMosaic Idealize.ShloMosaic.TcCoe Idealize.SL.Sem

namespace Cert.Mix

open Cert.Kernel5Ideal Cert.Kernel5Ideal.Gen

variable (m : (ℓ : Loc nD τ Cert.Kernel5Ideal.sig) → Buf (Elt Ideal) ℓ)

/-- The arguments, as the memory holds them. -/
def args (c : Dev nD) : Args where
  x := m ((c : Thread nD τ).loc main_arg0)
  y := m ((c : Thread nD τ).loc main_arg1)
  zs := m ((c : Thread nD τ).loc main_arg2)
  at_ := m ((c : Thread nD τ).loc main_arg3)
  za := m ((c : Thread nD τ).loc main_arg4)
  p := m ((c : Thread nD τ).loc main_arg5)
  tg := m ((c : Thread nD τ).loc main_arg6)
  wglu := m ((c : Thread nD τ).loc main_arg7)
  bglu := m ((c : Thread nD τ).loc main_arg8)
  wout := m ((c : Thread nD τ).loc main_arg9)
  gpost := m ((c : Thread nD τ).loc main_arg10)
  wgate := m ((c : Thread nD τ).loc main_arg11)
  bgate := m ((c : Thread nD τ).loc main_arg12)
  wproj := m ((c : Thread nD τ).loc main_arg13)

/-- The row of the whole array that row `r` of point `t`'s block is. -/
def row (t : Fin cfg0.N) (r : Fin 256) : Fin 4096 :=
  ⟨256 * t.val + r.val, by have h : t.val < 16 := lt_of_lt_of_eq t.isLt N_0; omega⟩

/-- Every row of the whole array lies in one point's block. -/
theorem exists_row (n : Fin 4096) : ∃ t r, n = row t r :=
  ⟨⟨n.val / 256, lt_of_lt_of_eq (by omega : n.val / 256 < 16) N_0.symm⟩, ⟨n.val % 256, by omega⟩, Fin.ext (by show n.val = 256 * (n.val / 256) + n.val % 256; omega)⟩

/-- The windows by rows stand at block `t`, -/
theorem index_rows (t : Fin cfg0.N) :
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_15.index t 0 = t.val ∧ win0_15.index t 1 = 0)
    ∧ (win0_17.index t 0 = t.val ∧ win0_17.index t 1 = 0)
    ∧ (win0_18.index t 0 = t.val ∧ win0_18.index t 1 = 0)
    ∧ (win0_19.index t 0 = t.val ∧ win0_19.index t 1 = 0) := by
  revert t; decide +kernel

/-- and those of the weights at their only block. -/
theorem index_whole (t : Fin cfg0.N) :
    (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = 0 ∧ win0_13.index t 1 = 0) := by
  revert t; decide +kernel

theorem read0 (c : Dev nD) (t : Fin cfg0.N) (r : Fin 256) (k : Fin 1024) : (ins m c t).x (ix2 r k) = (args m c).x (ix2 (row t r) k) := by
  show iblk m c 0 t (ix2 r k) = _
  unfold iblk
  rw [View.read_apply]
  show V m c main_arg0 _ = m (c.tc.loc main_arg0) _
  rw [V_main_arg0]
  have hi := (index_rows t).1
  congr 1
  funext a
  apply Fin.ext
  match a with
  | ⟨0, _⟩ => show win0_0.index t 0 * 256 + 1 * r.val = 256 * t.val + r.val; rw [hi.1]; omega
  | ⟨1, _⟩ => show win0_0.index t 1 * 1024 + 1 * k.val = k.val; rw [hi.2]; omega

theorem read1 (c : Dev nD) (t : Fin cfg0.N) (r : Fin 256) (k : Fin 512) : (ins m c t).y (ix2 r k) = (args m c).y (ix2 (row t r) k) := by
  show iblk m c 1 t (ix2 r k) = _
  unfold iblk
  rw [View.read_apply]
  show V m c main_arg1 _ = m (c.tc.loc main_arg1) _
  rw [V_main_arg1]
  have hi := (index_rows t).2.1
  congr 1
  funext a
  apply Fin.ext
  match a with
  | ⟨0, _⟩ => show win0_1.index t 0 * 256 + 1 * r.val = 256 * t.val + r.val; rw [hi.1]; omega
  | ⟨1, _⟩ => show win0_1.index t 1 * 512 + 1 * k.val = k.val; rw [hi.2]; omega

theorem read2 (c : Dev nD) (t : Fin cfg0.N) (r : Fin 256) (k : Fin 512) : (ins m c t).zs (ix2 r k) = (args m c).zs (ix2 (row t r) k) := by
  show iblk m c 2 t (ix2 r k) = _
  unfold iblk
  rw [View.read_apply]
  show V m c main_arg2 _ = m (c.tc.loc main_arg2) _
  rw [V_main_arg2]
  have hi := (index_rows t).2.2.1
  congr 1
  funext a
  apply Fin.ext
  match a with
  | ⟨0, _⟩ => show win0_2.index t 0 * 256 + 1 * r.val = 256 * t.val + r.val; rw [hi.1]; omega
  | ⟨1, _⟩ => show win0_2.index t 1 * 512 + 1 * k.val = k.val; rw [hi.2]; omega

theorem read3 (c : Dev nD) (t : Fin cfg0.N) (r : Fin 256) (k : Fin 512) : (ins m c t).at_ (ix2 r k) = (args m c).at_ (ix2 (row t r) k) := by
  show iblk m c 3 t (ix2 r k) = _
  unfold iblk
  rw [View.read_apply]
  show V m c main_arg3 _ = m (c.tc.loc main_arg3) _
  rw [V_main_arg3]
  have hi := (index_rows t).2.2.2.1
  congr 1
  funext a
  apply Fin.ext
  match a with
  | ⟨0, _⟩ => show win0_3.index t 0 * 256 + 1 * r.val = 256 * t.val + r.val; rw [hi.1]; omega
  | ⟨1, _⟩ => show win0_3.index t 1 * 512 + 1 * k.val = k.val; rw [hi.2]; omega

theorem read4 (c : Dev nD) (t : Fin cfg0.N) (r : Fin 256) (k : Fin 512) : (ins m c t).za (ix2 r k) = (args m c).za (ix2 (row t r) k) := by
  show iblk m c 4 t (ix2 r k) = _
  unfold iblk
  rw [View.read_apply]
  show V m c main_arg4 _ = m (c.tc.loc main_arg4) _
  rw [V_main_arg4]
  have hi := (index_rows t).2.2.2.2.1
  congr 1
  funext a
  apply Fin.ext
  match a with
  | ⟨0, _⟩ => show win0_4.index t 0 * 256 + 1 * r.val = 256 * t.val + r.val; rw [hi.1]; omega
  | ⟨1, _⟩ => show win0_4.index t 1 * 512 + 1 * k.val = k.val; rw [hi.2]; omega

theorem read5 (c : Dev nD) (t : Fin cfg0.N) (r : Fin 256) (k : Fin 256) : (ins m c t).p (ix2 r k) = (args m c).p (ix2 (row t r) k) := by
  show iblk m c 5 t (ix2 r k) = _
  unfold iblk
  rw [View.read_apply]
  show V m c main_arg5 _ = m (c.tc.loc main_arg5) _
  rw [V_main_arg5]
  have hi := (index_rows t).2.2.2.2.2.1
  congr 1
  funext a
  apply Fin.ext
  match a with
  | ⟨0, _⟩ => show win0_5.index t 0 * 256 + 1 * r.val = 256 * t.val + r.val; rw [hi.1]; omega
  | ⟨1, _⟩ => show win0_5.index t 1 * 256 + 1 * k.val = k.val; rw [hi.2]; omega

theorem read6 (c : Dev nD) (t : Fin cfg0.N) (r : Fin 256) (k : Fin 1024) : (ins m c t).tg (ix2 r k) = (args m c).tg (ix2 (row t r) k) := by
  show iblk m c 6 t (ix2 r k) = _
  unfold iblk
  rw [View.read_apply]
  show V m c main_arg6 _ = m (c.tc.loc main_arg6) _
  rw [V_main_arg6]
  have hi := (index_rows t).2.2.2.2.2.2.1
  congr 1
  funext a
  apply Fin.ext
  match a with
  | ⟨0, _⟩ => show win0_6.index t 0 * 256 + 1 * r.val = 256 * t.val + r.val; rw [hi.1]; omega
  | ⟨1, _⟩ => show win0_6.index t 1 * 1024 + 1 * k.val = k.val; rw [hi.2]; omega

theorem read7 (c : Dev nD) (t : Fin cfg0.N) (j : Fin 512) (k : Fin 512) : (ins m c t).wglu (ix2 j k) = (args m c).wglu (ix2 j k) := by
  show iblk m c 7 t (ix2 j k) = _
  unfold iblk
  rw [View.read_apply]
  show V m c main_v0 _ = m (c.tc.loc main_arg7) _
  unfold V
  after_reads_at
  show m (c.tc.loc main_arg7) _ = _
  have hi := (index_whole t).1
  congr 1
  funext a
  apply Fin.ext
  match a with
  | ⟨0, _⟩ => show win0_7.index t 0 * 512 + 1 * j.val = j.val; rw [hi.1]; omega
  | ⟨1, _⟩ => show win0_7.index t 1 * 512 + 1 * k.val = k.val; rw [hi.2]; omega

theorem read8 (c : Dev nD) (t : Fin cfg0.N) (k : Fin 512) : (ins m c t).bglu (ix2 0 k) = (args m c).bglu (ix2 0 k) := by
  show iblk m c 8 t (ix2 0 k) = _
  unfold iblk
  rw [View.read_apply]
  show V m c main_arg8 _ = m (c.tc.loc main_arg8) _
  rw [V_main_arg8]
  have hi := (index_whole t).2.1
  congr 1
  funext a
  apply Fin.ext
  match a with
  | ⟨0, _⟩ => show win0_8.index t 0 * 1 + 1 * 0 = 0; rw [hi.1]
  | ⟨1, _⟩ => show win0_8.index t 1 * 512 + 1 * k.val = k.val; rw [hi.2]; omega

theorem read9 (c : Dev nD) (t : Fin cfg0.N) (j : Fin 1024) (k : Fin 1024) : (ins m c t).wout (ix2 j k) = (args m c).wout (ix2 j k) := by
  show iblk m c 9 t (ix2 j k) = _
  unfold iblk
  rw [View.read_apply]
  show V m c main_v1 _ = m (c.tc.loc main_arg9) _
  unfold V
  after_reads_at
  show m (c.tc.loc main_arg9) _ = _
  have hi := (index_whole t).2.2.1
  congr 1
  funext a
  apply Fin.ext
  match a with
  | ⟨0, _⟩ => show win0_9.index t 0 * 1024 + 1 * j.val = j.val; rw [hi.1]; omega
  | ⟨1, _⟩ => show win0_9.index t 1 * 1024 + 1 * k.val = k.val; rw [hi.2]; omega

theorem read10 (c : Dev nD) (t : Fin cfg0.N) (k : Fin 1024) : (ins m c t).gpost (ix2 0 k) = (args m c).gpost (ix2 0 k) := by
  show iblk m c 10 t (ix2 0 k) = _
  unfold iblk
  rw [View.read_apply]
  show V m c main_arg10 _ = m (c.tc.loc main_arg10) _
  rw [V_main_arg10]
  have hi := (index_whole t).2.2.2.1
  congr 1
  funext a
  apply Fin.ext
  match a with
  | ⟨0, _⟩ => show win0_10.index t 0 * 1 + 1 * 0 = 0; rw [hi.1]
  | ⟨1, _⟩ => show win0_10.index t 1 * 1024 + 1 * k.val = k.val; rw [hi.2]; omega

theorem read11 (c : Dev nD) (t : Fin cfg0.N) (j : Fin 1024) (k : Fin 1024) : (ins m c t).wgate (ix2 j k) = (args m c).wgate (ix2 j k) := by
  show iblk m c 11 t (ix2 j k) = _
  unfold iblk
  rw [View.read_apply]
  show V m c main_v2 _ = m (c.tc.loc main_arg11) _
  unfold V
  after_reads_at
  show m (c.tc.loc main_arg11) _ = _
  have hi := (index_whole t).2.2.2.2.1
  congr 1
  funext a
  apply Fin.ext
  match a with
  | ⟨0, _⟩ => show win0_11.index t 0 * 1024 + 1 * j.val = j.val; rw [hi.1]; omega
  | ⟨1, _⟩ => show win0_11.index t 1 * 1024 + 1 * k.val = k.val; rw [hi.2]; omega

theorem read12 (c : Dev nD) (t : Fin cfg0.N) (k : Fin 1024) : (ins m c t).bgate (ix2 0 k) = (args m c).bgate (ix2 0 k) := by
  show iblk m c 12 t (ix2 0 k) = _
  unfold iblk
  rw [View.read_apply]
  show V m c main_arg12 _ = m (c.tc.loc main_arg12) _
  rw [V_main_arg12]
  have hi := (index_whole t).2.2.2.2.2.1
  congr 1
  funext a
  apply Fin.ext
  match a with
  | ⟨0, _⟩ => show win0_12.index t 0 * 1 + 1 * 0 = 0; rw [hi.1]
  | ⟨1, _⟩ => show win0_12.index t 1 * 1024 + 1 * k.val = k.val; rw [hi.2]; omega

theorem read13 (c : Dev nD) (t : Fin cfg0.N) (j : Fin 256) (k : Fin 1024) : (ins m c t).wproj (ix2 j k) = (args m c).wproj (ix2 j k) := by
  show iblk m c 13 t (ix2 j k) = _
  unfold iblk
  rw [View.read_apply]
  show V m c main_v3 _ = m (c.tc.loc main_arg13) _
  unfold V
  after_reads_at
  show m (c.tc.loc main_arg13) _ = _
  have hi := (index_whole t).2.2.2.2.2.2
  congr 1
  funext a
  apply Fin.ext
  match a with
  | ⟨0, _⟩ => show win0_13.index t 0 * 256 + 1 * j.val = j.val; rw [hi.1]; omega
  | ⟨1, _⟩ => show win0_13.index t 1 * 1024 + 1 * k.val = k.val; rw [hi.2]; omega

/-- A row of what point `t` reads is a row of the arguments. -/
theorem ins_row (c : Dev nD) (t : Fin cfg0.N) (r : Fin 256) : (ins m c t).row r = (args m c).row (row t r) := by
  unfold Ins.row Args.row
  simp only [read0, read1, read2, read3, read4, read5, read6, read7, read8, read9, read10, read11, read12, read13]

theorem flushed15 (c : Dev nD) (t : Fin cfg0.N) : (dats m 0 c).flushed 15 t = (cfg0.win 15).cut (grid0.coords t) (ins m c t).out15 := by
  show (cfg0.win 15).cut (grid0.coords t) ((dats m 0 c).after 15 t) = _
  rw [after15]

theorem idx_inj15 : ∀ t t' : Fin cfg0.N, win0_15.index t = win0_15.index t' → t = t' :=
  (by decide +kernel : ∀ t t' : Fin grid0.N, win0_15.index t = win0_15.index t' → t = t')

theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

theorem blocks15 (c : Dev nD) (t : Fin cfg0.N) (hf : (cfg0.win 15).flush t = true) :
    ((cfg0.win 15).blk t).view.read (Elt Ideal) ((dats m 0 c).arrAt 15 cfg0.N) = (dats m 0 c).flushed 15 t :=
  (dats m 0 c).read_blk_arrAt_eq_flushed 15 disjoint15 cfg0.N t t.isLt hf

theorem array15 (c : Dev nD) (n : Fin 4096) (j : Fin 1024) :
    (dats m 0 c).arrAt 15 cfg0.N (ix2 n j) = ((args m c).row n).dh1 j := by
  obtain ⟨t, r, rfl⟩ := exists_row n
  have hb := congrFun ((blocks15 m c t (flush0_15 t)).trans (flushed15 m c t)) (ix2 r j)
  have hi := (index_rows t).2.2.2.2.2.2.2.1
  rw [View.read_apply] at hb
  refine Eq.trans (congrArg _ (funext fun a => Fin.ext ?_)) (hb.trans ?_)
  · match a with
    | ⟨0, _⟩ => show 256 * t.val + r.val = win0_15.index t 0 * 256 + 1 * r.val; rw [hi.1]; omega
    | ⟨1, _⟩ => show j.val = win0_15.index t 1 * 1024 + 1 * j.val; rw [hi.2]; omega
  · show (ins m c t).out15 (ix2 r j) = _
    rw [Ins.out15_eq, dh1_at, ins_row]

theorem flushed17 (c : Dev nD) (t : Fin cfg0.N) : (dats m 0 c).flushed 17 t = (cfg0.win 17).cut (grid0.coords t) (ins m c t).out17 := by
  show (cfg0.win 17).cut (grid0.coords t) ((dats m 0 c).after 17 t) = _
  rw [after17]

theorem idx_inj17 : ∀ t t' : Fin cfg0.N, win0_17.index t = win0_17.index t' → t = t' :=
  (by decide +kernel : ∀ t t' : Fin grid0.N, win0_17.index t = win0_17.index t' → t = t')

theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

theorem blocks17 (c : Dev nD) (t : Fin cfg0.N) (hf : (cfg0.win 17).flush t = true) :
    ((cfg0.win 17).blk t).view.read (Elt Ideal) ((dats m 0 c).arrAt 17 cfg0.N) = (dats m 0 c).flushed 17 t :=
  (dats m 0 c).read_blk_arrAt_eq_flushed 17 disjoint17 cfg0.N t t.isLt hf

theorem array17 (c : Dev nD) (n : Fin 4096) (j : Fin 512) :
    (dats m 0 c).arrAt 17 cfg0.N (ix2 n j) = ((args m c).row n).dzs j := by
  obtain ⟨t, r, rfl⟩ := exists_row n
  have hb := congrFun ((blocks17 m c t (flush0_17 t)).trans (flushed17 m c t)) (ix2 r j)
  have hi := (index_rows t).2.2.2.2.2.2.2.2.1
  rw [View.read_apply] at hb
  refine Eq.trans (congrArg _ (funext fun a => Fin.ext ?_)) (hb.trans ?_)
  · match a with
    | ⟨0, _⟩ => show 256 * t.val + r.val = win0_17.index t 0 * 256 + 1 * r.val; rw [hi.1]; omega
    | ⟨1, _⟩ => show j.val = win0_17.index t 1 * 512 + 1 * j.val; rw [hi.2]; omega
  · show (ins m c t).out17 (ix2 r j) = _
    rw [Ins.out17_eq, dzs_at, ins_row]

theorem flushed18 (c : Dev nD) (t : Fin cfg0.N) : (dats m 0 c).flushed 18 t = (cfg0.win 18).cut (grid0.coords t) (ins m c t).out18 := by
  show (cfg0.win 18).cut (grid0.coords t) ((dats m 0 c).after 18 t) = _
  rw [after18]

theorem idx_inj18 : ∀ t t' : Fin cfg0.N, win0_18.index t = win0_18.index t' → t = t' :=
  (by decide +kernel : ∀ t t' : Fin grid0.N, win0_18.index t = win0_18.index t' → t = t')

theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

theorem blocks18 (c : Dev nD) (t : Fin cfg0.N) (hf : (cfg0.win 18).flush t = true) :
    ((cfg0.win 18).blk t).view.read (Elt Ideal) ((dats m 0 c).arrAt 18 cfg0.N) = (dats m 0 c).flushed 18 t :=
  (dats m 0 c).read_blk_arrAt_eq_flushed 18 disjoint18 cfg0.N t t.isLt hf

theorem array18 (c : Dev nD) (n : Fin 4096) (j : Fin 512) :
    (dats m 0 c).arrAt 18 cfg0.N (ix2 n j) = ((args m c).row n).dat j := by
  obtain ⟨t, r, rfl⟩ := exists_row n
  have hb := congrFun ((blocks18 m c t (flush0_18 t)).trans (flushed18 m c t)) (ix2 r j)
  have hi := (index_rows t).2.2.2.2.2.2.2.2.2.1
  rw [View.read_apply] at hb
  refine Eq.trans (congrArg _ (funext fun a => Fin.ext ?_)) (hb.trans ?_)
  · match a with
    | ⟨0, _⟩ => show 256 * t.val + r.val = win0_18.index t 0 * 256 + 1 * r.val; rw [hi.1]; omega
    | ⟨1, _⟩ => show j.val = win0_18.index t 1 * 512 + 1 * j.val; rw [hi.2]; omega
  · show (ins m c t).out18 (ix2 r j) = _
    rw [Ins.out18_eq, dat_at, ins_row]

theorem flushed19 (c : Dev nD) (t : Fin cfg0.N) : (dats m 0 c).flushed 19 t = (cfg0.win 19).cut (grid0.coords t) (ins m c t).out19 := by
  show (cfg0.win 19).cut (grid0.coords t) ((dats m 0 c).after 19 t) = _
  rw [after19]

theorem idx_inj19 : ∀ t t' : Fin cfg0.N, win0_19.index t = win0_19.index t' → t = t' :=
  (by decide +kernel : ∀ t t' : Fin grid0.N, win0_19.index t = win0_19.index t' → t = t')

theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

theorem blocks19 (c : Dev nD) (t : Fin cfg0.N) (hf : (cfg0.win 19).flush t = true) :
    ((cfg0.win 19).blk t).view.read (Elt Ideal) ((dats m 0 c).arrAt 19 cfg0.N) = (dats m 0 c).flushed 19 t :=
  (dats m 0 c).read_blk_arrAt_eq_flushed 19 disjoint19 cfg0.N t t.isLt hf

theorem array19 (c : Dev nD) (n : Fin 4096) (j : Fin 512) :
    (dats m 0 c).arrAt 19 cfg0.N (ix2 n j) = ((args m c).row n).dza j := by
  obtain ⟨t, r, rfl⟩ := exists_row n
  have hb := congrFun ((blocks19 m c t (flush0_19 t)).trans (flushed19 m c t)) (ix2 r j)
  have hi := (index_rows t).2.2.2.2.2.2.2.2.2.2
  rw [View.read_apply] at hb
  refine Eq.trans (congrArg _ (funext fun a => Fin.ext ?_)) (hb.trans ?_)
  · match a with
    | ⟨0, _⟩ => show 256 * t.val + r.val = win0_19.index t 0 * 256 + 1 * r.val; rw [hi.1]; omega
    | ⟨1, _⟩ => show j.val = win0_19.index t 1 * 512 + 1 * j.val; rw [hi.2]; omega
  · show (ins m c t).out19 (ix2 r j) = _
    rw [Ins.out19_eq, dza_at, ins_row]

end Cert.Mix

end
-- ==== Proof.Mix.Grad.lean ====
/-
  On finite rows the two forms of the gradients are one: what the kernel computes of a row, and what the derivative of the
  written formula computes of it.
-/
module

public import proofs.«01_k».proof.Proof.Mix.Row
public import proofs.«01_k».proof.Proof.In.Identity

@[expose] public section

noncomputable section

open Idealize.ShloMosaic

namespace Cert.Mix

open Cert.InBack (Fin' coe_sum lit_len lit_eps row_grad)

theorem fin_add {x y : EReal} (hx : Fin' x) (hy : Fin' y) : Fin' (x + y) := by
  obtain ⟨a, rfl⟩ := hx; obtain ⟨b, rfl⟩ := hy; exact ⟨a + b, (EReal.coe_add a b).symm⟩

theorem fin_sub {x y : EReal} (hx : Fin' x) (hy : Fin' y) : Fin' (x - y) := by
  obtain ⟨a, rfl⟩ := hx; obtain ⟨b, rfl⟩ := hy; exact ⟨a - b, (EReal.coe_sub a b).symm⟩

theorem fin_one : Fin' 1 := ⟨1, rfl⟩

/-- The logistic of a finite number is finite. -/
theorem fin_sig {z : EReal} (hz : Fin' z) : Fin' (sig z) := by
  obtain ⟨a, rfl⟩ := hz
  have h : (0 : ℝ) < 1 + Real.exp (-a) := by positivity
  refine ⟨1 / (1 + Real.exp (-a)), ?_⟩
  unfold sig
  rw [← EReal.coe_neg, Ideal.exp_coe, ← EReal.coe_one, ← EReal.coe_add, Ideal.div_coe h.ne', ← EReal.coe_mul, one_mul]

theorem fin_tanh {z : EReal} (hz : Fin' z) : Fin' (Ideal.tanh z) := by
  obtain ⟨a, rfl⟩ := hz
  exact ⟨_, Ideal.tanh_coe a⟩

/-- A row whose entries and weights are finite. -/
structure Row.Finite (R : Row) : Prop where
  x : ∀ k, Fin' (R.x k)
  y : ∀ k, Fin' (R.y k)
  zs : ∀ k, Fin' (R.zs k)
  at_ : ∀ k, Fin' (R.at_ k)
  za : ∀ k, Fin' (R.za k)
  p : ∀ k, Fin' (R.p k)
  tg : ∀ k, Fin' (R.tg k)
  wglu : ∀ i k, Fin' (R.wglu i k)
  bglu : ∀ k, Fin' (R.bglu k)
  wout : ∀ i k, Fin' (R.wout i k)
  gpost : ∀ k, Fin' (R.gpost k)
  wgate : ∀ i k, Fin' (R.wgate i k)
  bgate : ∀ k, Fin' (R.bgate k)
  wproj : ∀ i k, Fin' (R.wproj i k)

namespace Row.Finite

variable {R : Row} (H : R.Finite)
include H

theorem gl (j : Fin 512) : Fin' (R.gl j) := by
  have h1 : Fin' (Ideal.ofBits .f32 0x3F000000#32) := by
    refine ⟨1/2, ?_⟩; simp [Ideal.ofBits, Ideal.ieee]; rw [← EReal.coe_mul]; norm_num
  have h2 : Fin' (Ideal.ofBits .f32 0x3F4C422A#32) := by
    refine ⟨13386282 / 2 ^ 24, ?_⟩; simp [Ideal.ofBits, Ideal.ieee]; rw [← EReal.coe_mul]; norm_num
  have h3 : Fin' (Ideal.ofBits .f32 0x3D372713#32) := by
    refine ⟨12003091 / 2 ^ 28, ?_⟩; simp [Ideal.ofBits, Ideal.ieee]; rw [← EReal.coe_mul]; norm_num
  exact (h1.mul (H.y j)).mul (fin_add fin_one (fin_tanh (h2.mul (fin_add (H.y j) (((h3.mul (H.y j)).mul (H.y j)).mul (H.y j))))))

theorem sa (j : Fin 512) : Fin' (R.sa j) :=
  fin_sig (fin_add (Fin'.sum fun i => (H.gl i).mul (H.wglu i j)) (H.bglu j))

theorem glu (j : Fin 512) : Fin' (R.glu j) := (H.gl j).mul (H.sa j)

theorem cat (k : Fin 1024) : Fin' (R.cat k) := by
  unfold Row.cat
  split
  · exact (H.glu _).mul ((H.zs _).mul (fin_sig (H.zs _)))
  · exact (H.at_ _).mul ((H.za _).mul (fin_sig (H.za _)))

theorem mixed (k : Fin 1024) : Fin' (R.mixed k) := Fin'.sum fun j => (H.cat j).mul (H.wout j k)

/-- The mean square with its ε is a positive number. -/
theorem ms : ∃ v : ℝ, 0 < v ∧ R.ms = (v : EReal) := by
  choose X hX using H.mixed
  obtain ⟨e, he, hle⟩ := lit_eps
  refine ⟨(∑ k, X k * X k) / 1024 + e,
    add_pos_of_nonneg_of_pos (div_nonneg (Finset.sum_nonneg fun i _ => mul_self_nonneg _) (by norm_num)) he, ?_⟩
  unfold Row.ms
  rw [hle, lit_len]
  simp only [hX, ← EReal.coe_mul, coe_sum]
  rw [Ideal.div_coe (by norm_num), ← EReal.coe_mul, ← EReal.coe_add, mul_one_div]

theorem rs : Fin' R.rs := by
  obtain ⟨v, hv, h⟩ := H.ms
  unfold Row.rs
  rw [h, Ideal.rsqrt_coe, if_neg hv.not_gt, if_neg hv.ne']
  exact ⟨_, rfl⟩

theorem nhat (k : Fin 1024) : Fin' (R.nhat k) := (H.mixed k).mul H.rs
theorem h1 (k : Fin 1024) : Fin' (R.h1 k) := fin_add (H.x k) ((H.nhat k).mul (H.gpost k))
theorem gate (k : Fin 1024) : Fin' (R.gate k) :=
  fin_sig (fin_add (Fin'.sum fun j => (H.h1 j).mul (H.wgate j k)) (H.bgate k))
theorem pp (k : Fin 1024) : Fin' (R.pp k) := Fin'.sum fun j => (H.p j).mul (H.wproj j k)
theorem err (k : Fin 1024) : Fin' (R.err k) := fin_sub (fin_add (H.h1 k) ((H.gate k).mul (H.pp k))) (H.tg k)

theorem dh2 (k : Fin 1024) : Fin' (R.dh2 k) := by
  have h : Fin' (Ideal.ofBits .f32 0x3A800000#32) := by
    refine ⟨1/1024, ?_⟩; simp [Ideal.ofBits, Ideal.ieee]; rw [← EReal.coe_mul]; norm_num
  exact (H.err k).mul h

theorem dgp (k : Fin 1024) : Fin' (R.dgp k) :=
  (((H.dh2 k).mul (H.pp k)).mul (H.gate k)).mul (fin_sub fin_one (H.gate k))
theorem dh1 (k : Fin 1024) : Fin' (R.dh1 k) := fin_add (H.dh2 k) (Fin'.sum fun j => (H.dgp j).mul (H.wgate k j))
theorem dn (k : Fin 1024) : Fin' (R.dn k) := (H.dh1 k).mul (H.gpost k)

theorem dmixed (k : Fin 1024) : Fin' (R.dmixed k) := by
  have h : Fin' (Ideal.div (∑ l, R.dn l * R.nhat l) (Ideal.ofBits .f32 0x44800000#32)) := by
    rw [lit_len, Ideal.div_coe (by norm_num)]
    exact (Fin'.sum fun l => (H.dn l).mul (H.nhat l)).mul ⟨_, rfl⟩
  exact H.rs.mul (fin_sub (H.dn k) ((H.nhat k).mul h))

theorem dcat (k : Fin 1024) : Fin' (R.dcat k) := Fin'.sum fun j => (H.dmixed j).mul (H.wout k j)

/-- The gradient of the mixed row: the kernel's projection, and the derivative through the mean square. -/
theorem dmixed_eq (k : Fin 1024) : R.dmixed k = R.dn k * R.rs
    + R.mixed k * InBack.Ref.meanGrad R.mixed R.dn R.rs R.ms + InBack.Ref.meanGrad R.mixed R.dn R.rs R.ms * R.mixed k := by
  have h := row_grad R.mixed R.dn 0 H.mixed H.dn R.ms R.rs rfl rfl k
  rw [zero_add, zero_add] at h
  exact h

end Row.Finite

/-- The gradient of `z · sig z`: the kernel's form and the derivative's. -/
theorem silu_grad {d g z s : EReal} (hd : Fin' d) (hg : Fin' g) (hz : Fin' z) (hs : Fin' s) :
    d * g * (s * (1 + z * (1 - s))) = g * d * s + z * (g * d) * (s * (1 - s)) := by
  obtain ⟨d, rfl⟩ := hd
  obtain ⟨g, rfl⟩ := hg
  obtain ⟨z, rfl⟩ := hz
  obtain ⟨s, rfl⟩ := hs
  simp only [← EReal.coe_one, ← EReal.coe_mul, ← EReal.coe_sub, ← EReal.coe_add]
  congr 1
  ring

end Cert.Mix
-- ==== Proof.Mix.Result.lean ====
/-
  The reference's results where the arguments are real numbers: each entry is the row function that the kernel computes.
-/
module

public import proofs.«01_k».proof.Proof.Mix.Ref
public import proofs.«01_k».proof.Proof.Mix.Grad

@[expose] public section

noncomputable section

open Idealize.ShloMosaic Idealize.ShloMosaic.TcCoe Idealize.SL.Sem

namespace Cert.Mix

variable (A : Args) (n : Fin 4096) (H : (A.row n).Finite)

include H

theorem v94_eq (k : Fin 1024) : A.v94 (ix2 n k) = (A.row n).dmixed k := by
  rw [v94_at, v90_at, H.dmixed_eq]

theorem v95_eq (k : Fin 1024) : A.v95 (ix2 n k) = (A.row n).dcat k := by
  rw [v95_at]
  unfold Row.dcat
  exact Finset.sum_congr rfl fun j _ => congrArg (· * _) (v94_eq A n H j)

theorem v99_eq (j : Fin 512) : A.v99 (ix2 n j) = (A.row n).dat j := by
  rw [v99_at, v95_eq A n H]
  rfl

theorem v104_eq (j : Fin 512) : A.v104 (ix2 n j) = (A.row n).dza j := by
  rw [v104_at, v95_eq A n H]
  exact (silu_grad (H.dcat _) (H.at_ j) (H.za j) (fin_sig (H.za j))).symm

theorem v103_eq (j : Fin 512) : A.v103 (ix2 n j) = (A.row n).dzs j := by
  rw [v103_at, v95_eq A n H]
  exact (silu_grad (H.dcat _) (H.glu j) (H.zs j) (fin_sig (H.zs j))).symm

end Cert.Mix

end
-- ==== Proof.Mix.Claim.lean ====
/-
  The claim about the mixing stage's gradient, put together: the kernel's run and the reference's run, and the four results
  that they share.
-/
module

public import proofs.«01_k».proof.Defs
public import proofs.«01_k».proof.Proof.Gen.Pre_finite5
public import proofs.«01_k».proof.Proof.Gen.Reference5Ideal.Run
public import proofs.«01_k».proof.Proof.Finite
public import proofs.«01_k».proof.Proof.Mix.Frame
public import proofs.«01_k».proof.Proof.Mix.Block
public import proofs.«01_k».proof.Proof.Mix.Result

@[expose] public section

noncomputable section

open Idealize.ShloMosaic Idealize.ShloMosaic.TcCoe Idealize.SL.Sem

namespace Cert.Mix

open Cert.Kernel5Ideal Cert.Kernel5Ideal.Gen Cert.Reference5Ideal.Read

variable (m : (ℓ : Loc nD τ Cert.Kernel5Ideal.sig) → Buf (Elt Ideal) ℓ)

/-- Two arrays that agree at every row and column are equal. -/
theorem ext2 {a b : Nat} {φ : EltTy} {x y : Vec Ideal ⟨2, ![a, b]⟩ φ} (h : ∀ r c, x (ix2 r c) = y (ix2 r c)) : x = y :=
  funext fun i => by rw [eq_ix2 i]; exact h _ _

/-- The precondition says that every row of the arguments is of real numbers. -/
theorem finite_of_pre (h : Cert.Pre_Kernel5Ideal_finite5 (hPre_finite5 := Cert.Pre_finite5.Gen.facts) m) (c : Dev nD) (n : Fin 4096) :
    ((args m c).row n).Finite := by
  obtain ⟨h0, h1, h2, h3, h4, h5, h6, h7, h8, h9, h10, h11, h12, h13⟩ := h c
  replace h0 := InBack.fin_of_all _ _ _ h0
  replace h1 := InBack.fin_of_all _ _ _ h1
  replace h2 := InBack.fin_of_all _ _ _ h2
  replace h3 := InBack.fin_of_all _ _ _ h3
  replace h4 := InBack.fin_of_all _ _ _ h4
  replace h5 := InBack.fin_of_all _ _ _ h5
  replace h6 := InBack.fin_of_all _ _ _ h6
  replace h7 := InBack.fin_of_all _ _ _ h7
  replace h8 := InBack.fin_of_all _ _ _ h8
  replace h9 := InBack.fin_of_all _ _ _ h9
  replace h10 := InBack.fin_of_all _ _ _ h10
  replace h11 := InBack.fin_of_all _ _ _ h11
  replace h12 := InBack.fin_of_all _ _ _ h12
  replace h13 := InBack.fin_of_all _ _ _ h13
  exact ⟨fun _ => h0 _, fun _ => h1 _, fun _ => h2 _, fun _ => h3 _, fun _ => h4 _, fun _ => h5 _, fun _ => h6 _, fun _ _ => h7 _, fun _ => h8 _, fun _ _ => h9 _, fun _ => h10 _, fun _ _ => h11 _, fun _ => h12 _, fun _ _ => h13 _⟩

/-- The run, with the four results at the launch's final arrays and the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v4_1) = (dats m 0 c).arrAt 15 cfg0.N ∧
      r.2.mem ((c.tc : Thread nD τ).loc main_v4_3) = (dats m 0 c).arrAt 17 cfg0.N ∧
      r.2.mem ((c.tc : Thread nD τ).loc main_v4_4) = (dats m 0 c).arrAt 18 cfg0.N ∧
      r.2.mem ((c.tc : Thread nD τ).loc main_v4_5) = (dats m 0 c).arrAt 19 cfg0.N ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨
    ((dats m 0 c).toRForget_arrAt_iff (fgt := fgt) (w := 15) rfl cfg0.N _).mp ((h.1 c).1 15),
    ((dats m 0 c).toRForget_arrAt_iff (fgt := fgt) (w := 17) rfl cfg0.N _).mp ((h.1 c).1 17),
    ((dats m 0 c).toRForget_arrAt_iff (fgt := fgt) (w := 18) rfl cfg0.N _).mp ((h.1 c).1 18),
    ((dats m 0 c).toRForget_arrAt_iff (fgt := fgt) (w := 19) rfl cfg0.N _).mp ((h.1 c).1 19),
    args_of_post m h.1 c⟩) (run_main m ρ)

theorem algebraic : Cert.algebraic_Kernel5Ideal_Reference5Ideal_pre_finite5 (hKernel5Ideal := Cert.Kernel5Ideal.Gen.facts)
    (hReference5Ideal := Cert.Reference5Ideal.Gen.facts) (hPre_finite5 := Cert.Pre_finite5.Gen.facts) := by
  intro m g m' g' hpre hargs
  refine ⟨fun c => (dats m 0 c).arrAt 15 cfg0.N, fun c => (dats m 0 c).arrAt 17 cfg0.N, fun c => (dats m 0 c).arrAt 18 cfg0.N,
    fun c => (dats m 0 c).arrAt 19 cfg0.N, run_values m g,
    (θ_run Cert.Reference5Ideal.defs _ _).mono (fun r h c => ?_) (Cert.Reference5Ideal.Value.run (F := Ideal) m' g')⟩
  have hr := h c
  obtain ⟨e0, e1, e2, e3, e4, e5, e6, e7, e8, e9, e10, e11, e12, e13⟩ := hargs c
  have H := finite_of_pre m hpre c
  refine ⟨hr.1.trans ?_, hr.2.1.trans ?_, hr.2.2.1.trans ?_, hr.2.2.2.1.trans ?_, hr.2.2.2.2⟩
  · refine (val_main_v78_eq _).trans (Eq.trans ?_ (ext2 fun n k => (v78_at (args m c) n k).trans (array15 m c n k).symm))
    show val_main_v78 (F := Ideal) (m' (c.tc.loc Cert.Reference5Ideal.main_arg0)) (m' (c.tc.loc Cert.Reference5Ideal.main_arg1)) (m' (c.tc.loc Cert.Reference5Ideal.main_arg2)) (m' (c.tc.loc Cert.Reference5Ideal.main_arg3)) (m' (c.tc.loc Cert.Reference5Ideal.main_arg4)) (m' (c.tc.loc Cert.Reference5Ideal.main_arg5)) (m' (c.tc.loc Cert.Reference5Ideal.main_arg6)) (m' (c.tc.loc Cert.Reference5Ideal.main_arg7)) (m' (c.tc.loc Cert.Reference5Ideal.main_arg8)) (m' (c.tc.loc Cert.Reference5Ideal.main_arg9)) (m' (c.tc.loc Cert.Reference5Ideal.main_arg10)) (m' (c.tc.loc Cert.Reference5Ideal.main_arg11)) (m' (c.tc.loc Cert.Reference5Ideal.main_arg12)) (m' (c.tc.loc Cert.Reference5Ideal.main_arg13)) = (args m c).v78
    rw [e0, e1, e2, e3, e4, e5, e6, e7, e8, e9, e10, e11, e12, e13]
    rfl
  · refine (val_main_v103_eq _).trans (Eq.trans ?_ (ext2 fun n k => (v103_eq (args m c) n (H n) k).trans (array17 m c n k).symm))
    show val_main_v103 (F := Ideal) (m' (c.tc.loc Cert.Reference5Ideal.main_arg0)) (m' (c.tc.loc Cert.Reference5Ideal.main_arg1)) (m' (c.tc.loc Cert.Reference5Ideal.main_arg2)) (m' (c.tc.loc Cert.Reference5Ideal.main_arg3)) (m' (c.tc.loc Cert.Reference5Ideal.main_arg4)) (m' (c.tc.loc Cert.Reference5Ideal.main_arg5)) (m' (c.tc.loc Cert.Reference5Ideal.main_arg6)) (m' (c.tc.loc Cert.Reference5Ideal.main_arg7)) (m' (c.tc.loc Cert.Reference5Ideal.main_arg8)) (m' (c.tc.loc Cert.Reference5Ideal.main_arg9)) (m' (c.tc.loc Cert.Reference5Ideal.main_arg10)) (m' (c.tc.loc Cert.Reference5Ideal.main_arg11)) (m' (c.tc.loc Cert.Reference5Ideal.main_arg12)) (m' (c.tc.loc Cert.Reference5Ideal.main_arg13)) = (args m c).v103
    rw [e0, e1, e2, e3, e4, e5, e6, e7, e8, e9, e10, e11, e12, e13]
    rfl
  · refine (val_main_v99_eq _).trans (Eq.trans ?_ (ext2 fun n k => (v99_eq (args m c) n (H n) k).trans (array18 m c n k).symm))
    show val_main_v99 (F := Ideal) (m' (c.tc.loc Cert.Reference5Ideal.main_arg0)) (m' (c.tc.loc Cert.Reference5Ideal.main_arg1)) (m' (c.tc.loc Cert.Reference5Ideal.main_arg2)) (m' (c.tc.loc Cert.Reference5Ideal.main_arg3)) (m' (c.tc.loc Cert.Reference5Ideal.main_arg4)) (m' (c.tc.loc Cert.Reference5Ideal.main_arg5)) (m' (c.tc.loc Cert.Reference5Ideal.main_arg6)) (m' (c.tc.loc Cert.Reference5Ideal.main_arg7)) (m' (c.tc.loc Cert.Reference5Ideal.main_arg8)) (m' (c.tc.loc Cert.Reference5Ideal.main_arg9)) (m' (c.tc.loc Cert.Reference5Ideal.main_arg10)) (m' (c.tc.loc Cert.Reference5Ideal.main_arg11)) (m' (c.tc.loc Cert.Reference5Ideal.main_arg12)) (m' (c.tc.loc Cert.Reference5Ideal.main_arg13)) = (args m c).v99
    rw [e0, e1, e2, e3, e4, e5, e6, e7, e8, e9, e10, e11, e12, e13]
    rfl
  · refine (val_main_v104_eq _).trans (Eq.trans ?_ (ext2 fun n k => (v104_eq (args m c) n (H n) k).trans (array19 m c n k).symm))
    show val_main_v104 (F := Ideal) (m' (c.tc.loc Cert.Reference5Ideal.main_arg0)) (m' (c.tc.loc Cert.Reference5Ideal.main_arg1)) (m' (c.tc.loc Cert.Reference5Ideal.main_arg2)) (m' (c.tc.loc Cert.Reference5Ideal.main_arg3)) (m' (c.tc.loc Cert.Reference5Ideal.main_arg4)) (m' (c.tc.loc Cert.Reference5Ideal.main_arg5)) (m' (c.tc.loc Cert.Reference5Ideal.main_arg6)) (m' (c.tc.loc Cert.Reference5Ideal.main_arg7)) (m' (c.tc.loc Cert.Reference5Ideal.main_arg8)) (m' (c.tc.loc Cert.Reference5Ideal.main_arg9)) (m' (c.tc.loc Cert.Reference5Ideal.main_arg10)) (m' (c.tc.loc Cert.Reference5Ideal.main_arg11)) (m' (c.tc.loc Cert.Reference5Ideal.main_arg12)) (m' (c.tc.loc Cert.Reference5Ideal.main_arg13)) = (args m c).v104
    rw [e0, e1, e2, e3, e4, e5, e6, e7, e8, e9, e10, e11, e12, e13]
    rfl

end Cert.Mix

end
-- ==== Proof.Mix.Same.lean ====
/-
  The mixing stage's kernel at the chip's words: its program has the text of the ideal program, so that its frame is the
  frame of the run proved for every kind of float.
-/
module

public import proofs.«01_k».proof.Proof.Gen.Kernel5
public import proofs.«01_k».proof.Proof.Gen.Kernel5Ideal
public import proofs.«01_k».proof.Defs
public import proofs.«01_k».proof.Proof.Mix.Frame

@[expose] public section

namespace Cert.Mix

open Idealize.ShloMosaic Idealize.SL.Sem

set_option maxRecDepth 100000
set_option maxHeartbeats 4000000

variable {F : FTy → Type} [FloatOps F]

local instance kernel5Facts : Cert.Kernel5.Facts := Cert.Kernel5.Gen.facts
local instance kernel5IdealFacts : Cert.Kernel5Ideal.Facts := Cert.Kernel5Ideal.Gen.facts

/-- The two programs run the same body at each grid point. -/
theorem body_eq (t) (s) :
    Cert.Kernel5.defs₀ (F := F) .tc (0 : Fin 1) (t, s) = Cert.Kernel5Ideal.defs₀ (F := F) .tc (0 : Fin 1) (t, s) := rfl

/-- The two tables of bodies are one. -/
theorem bodies_eq : Cert.Kernel5.defs₀ (F := F) = Cert.Kernel5Ideal.defs₀ (F := F) :=
  funext fun p => funext fun l => funext fun a => match p, l, a with
  | .tc, ⟨0, _⟩, (t, s) => body_eq t s
  | .tc, ⟨_ + 1, h⟩, _ => absurd h (Nat.not_lt.2 (Nat.le_add_left _ _))
  | .scScalar _, _, _ => rfl
  | .scVector _ _, _, _ => rfl

/-- So are the tables with the pipelines' regions. -/
theorem defs_eq : Cert.Kernel5.defs (F := F) = Cert.Kernel5Ideal.defs (F := F) := congrArg (Pipeline.defs _) bodies_eq

/-- The frame of the kernel at the chip's words. -/
theorem frame_words : Cert.quiescent_Kernel5 (hKernel5 := Cert.Kernel5.Gen.facts) := by
  intro m ρ _
  rw [defs_eq]
  exact Cert.Mix.frame (F := Bits) m ρ

end Cert.Mix

end
-- ==== Proof.lean ====
/-
  The proof of the claims: the frames come from the runs, the value claim from the modules beside this file.
-/
module

public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Defs
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite3
public import proofs.«01_k».proof.Proof.Gen.Kernel3Ideal.Value
public import proofs.«01_k».proof.Proof.Gen.Reference3Ideal.Run
public import proofs.«01_k».proof.Proof.Gen.Reference3Ideal.Read
public import Idealize.ShloMosaic.Adequacy
public import Idealize.ShloMosaic.Init
public import proofs.«01_k».proof.Proof.In.Claim
public import proofs.«01_k».proof.Proof.Proj.Claim
public import proofs.«01_k».proof.Proof.Mix.Claim
public import proofs.«01_k».proof.Proof.Mix.Same

@[expose] public section

noncomputable section

namespace Cert.Proof

open Idealize.ShloMosaic Idealize.SL.Sem

/-- The frame of the gradient's reference, from its run. -/
theorem frame_reference3 : Cert.quiescent_Reference3Ideal (hReference3Ideal := Cert.Reference3Ideal.Gen.facts) := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

/-- The frame of the product's reference, from its run. -/
theorem frame_reference4 : Cert.quiescent_Reference4Ideal (hReference4Ideal := Cert.Reference4Ideal.Gen.facts) := fun m ρ _ =>
  (θ_run Cert.Reference4Ideal.defs _ _).mono (fun r h => ⟨fun c => (h c).2.2.2.2.2.2, sem_eq_zero_of_no_sems (by decide) r.2⟩)
    (Cert.Reference4Ideal.Value.run (F := Ideal) m ρ)

/-- The frame of the mixing stage's gradient over the extended reals. -/
theorem frame_kernel5Ideal : Cert.quiescent_Kernel5Ideal (hKernel5Ideal := Cert.Kernel5Ideal.Gen.facts) := fun m ρ _ =>
  Cert.Mix.frame (F := Ideal) m ρ

/-- The frame of its reference, from its run. -/
theorem frame_reference5 : Cert.quiescent_Reference5Ideal (hReference5Ideal := Cert.Reference5Ideal.Gen.facts) := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

theorem claim : Cert.Claim := ⟨Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite3.Gen.facts, Cert.Pre_finite5.Gen.facts,
  fun m ρ _ => Cert.Kernel3.Gen.frame m ρ,
  fun m ρ _ => Cert.Kernel3Ideal.Gen.frame m ρ,
  fun m ρ _ => Cert.Kernel3Ideal.Gen.frame m ρ,
  frame_reference3,
  fun m ρ _ => frame_reference3 m ρ trivial,
  fun m ρ _ => Cert.Kernel4.Gen.frame m ρ,
  fun m ρ _ => Cert.Kernel4Ideal.Gen.frame m ρ,
  frame_reference4,
  Cert.Mix.frame_words,
  frame_kernel5Ideal,
  fun m ρ _ => frame_kernel5Ideal m ρ trivial,
  frame_reference5,
  fun m ρ _ => frame_reference5 m ρ trivial,
  trivial,
  Cert.InBack.algebraic,
  trivial,
  Cert.InProj.algebraic,
  trivial,
  Cert.Mix.algebraic⟩

end Cert.Proof

end
